-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 1024]⟩ ⟨3, ![2, 2048, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 1024]⟩ ⟨3, ![2, 2048, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v81) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x1024 : Shape := ⟨3, ![2, 512, 1024]⟩
abbrev S1024x1024 : Shape := ⟨2, ![1024, 1024]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x512x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x512x1024 : Shape := ⟨3, ![2, 512, 1024]⟩
abbrev S1024x1024 : Shape := ⟨2, ![1024, 1024]⟩
abbrev S4x512x1024 : Shape := ⟨3, ![4, 512, 1024]⟩
abbrev S3 : Shape := ⟨1, ![3]⟩
abbrev S_ : Shape := ⟨0, ![]⟩
abbrev S512x1024 : Shape := ⟨2, ![512, 1024]⟩
abbrev S1x512x1024 : Shape := ⟨3, ![1, 512, 1024]⟩
abbrev S1 : Shape := ⟨1, ![1]⟩
abbrev S512x128 : Shape := ⟨2, ![512, 128]⟩
abbrev S1x128 : Shape := ⟨2, ![1, 128]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S2x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x512x1024, .bf16⟩
  | .local _ .vmem, ⟨0, _⟩ => ⟨S2x512x1024, .f32⟩
  | .local _ .vmem, ⟨1, _⟩ => ⟨S2x512x1024, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x1024, .bf16⟩
  | .local _ .vmem, ⟨5, _⟩ => ⟨S1024x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_22 : BitVec 32 := 1#32
  let v25 : BitVec 32 := Scalar.muli v7 c1_i32_22
  let v26 : BitVec 32 := Scalar.addi c0_i32_23 v25
  v26.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_32 : BitVec 32 := 1#32
  let v35 : BitVec 32 := Scalar.muli v5 c1_i32_32
  let v36 : BitVec 32 := Scalar.addi c0_i32_33 v35
  v36.toNat
def k0_dev5 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_185 : BitVec 32 := 1#32
  let v321 : BitVec 32 := Scalar.muli v7 c1_i32_185
  let v322 : BitVec 32 := Scalar.addi c0_i32_186 v321
  v322.toNat
def k0_dev6 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_195 : BitVec 32 := 1#32
  let v331 : BitVec 32 := Scalar.muli v5 c1_i32_195
  let v332 : BitVec 32 := Scalar.addi c0_i32_196 v331
  v332.toNat
def k0_dev7 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_341 : BitVec 32 := 1#32
  let v620 : BitVec 32 := Scalar.muli v7 c1_i32_341
  let v621 : BitVec 32 := Scalar.addi c0_i32_342 v620
  v621.toNat
def k0_dev8 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_351 : BitVec 32 := 1#32
  let v630 : BitVec 32 := Scalar.muli v5 c1_i32_351
  let v631 : BitVec 32 := Scalar.addi c0_i32_352 v630
  v631.toNat
abbrev stage0_0 : Fin 1 → Memref sig .tc .vmem S2x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S1024x1024 : Shape := ⟨2, ![1024, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x64x2 : Shape := ⟨3, ![2048, 64, 2]⟩
abbrev S2048x128 : Shape := ⟨2, ![2048, 128]⟩
abbrev S2x2048x8x128 : Shape := ⟨4, ![2, 2048, 8, 128]⟩
abbrev S2x2048x8x64x2 : Shape := ⟨5, ![2, 2048, 8, 64, 2]⟩
abbrev S2x2048x8x64x1 : Shape := ⟨5, ![2, 2048, 8, 64, 1]⟩
abbrev S2x2048x8x64 : Shape := ⟨4, ![2, 2048, 8, 64]⟩
abbrev S1x2048x1x128 : Shape := ⟨4, ![1, 2048, 1, 128]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩

abbrev nBuf : Space → Nat
  | .hbm => 95
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2048, .i32⟩
  | .hbm, ⟨23, _⟩ => ⟨S2048x1, .i32⟩
  | .hbm, ⟨24, _⟩ => ⟨S1x64, .f32⟩
  | .hbm, ⟨25, _⟩ => ⟨S2048x1, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x64x2, .f32⟩
  | .hbm, ⟨31, _⟩ => ⟨S2048x128, .f32⟩
  | .hbm, ⟨32, _⟩ => ⟨S2048x64, .f32⟩
  | .hbm, ⟨33, _⟩ => ⟨S2048x64x2, .f32⟩
  | .hbm, ⟨34, _⟩ => ⟨S2048x128, .f32⟩
  | .hbm, ⟨35, _⟩ => ⟨S2x2048x1024, .f32⟩
  | .hbm, ⟨36, _⟩ => ⟨S2x2048x8x128, .f32⟩
  | .hbm, ⟨37, _⟩ => ⟨S2x2048x8x64x2, .f32⟩
  | .hbm, ⟨38, _⟩ => ⟨S2x2048x8x64x1, .f32⟩
  | .hbm, ⟨39, _⟩ => ⟨S2x2048x8x64, .f32⟩
  | .hbm, ⟨40, _⟩ => ⟨S2x2048x8x64, .f32⟩
  | .hbm, ⟨41, _⟩ => ⟨S2x2048x8x64x1, .f32⟩
  | .hbm, ⟨42, _⟩ => ⟨S2x2048x8x64, .f32⟩
  | .hbm, ⟨43, _⟩ => ⟨S2x2048x8x64x1, .f32⟩
  | .hbm, ⟨44, _⟩ => ⟨S2x2048x8x64x1, .f32⟩
  | .hbm, ⟨45, _⟩ => ⟨S2x2048x8x64x2, .f32⟩
  | .hbm, ⟨46, _⟩ => ⟨S2x2048x8x128, .f32⟩
  | .hbm, ⟨47, _⟩ => ⟨S1x2048x1x128, .f32⟩
  | .hbm, ⟨48, _⟩ => ⟨S2x2048x8x128, .f32⟩
  | .hbm, ⟨49, _⟩ => ⟨S2x2048x8x128, .f32⟩
  | .hbm, ⟨50, _⟩ => ⟨S1x2048x1x128, .f32⟩
  | .hbm, ⟨51, _⟩ => ⟨S2x2048x8x128, .f32⟩
  | .hbm, ⟨52, _⟩ => ⟨S2x2048x8x128, .f32⟩
  | .hbm, ⟨53, _⟩ => ⟨S2x2048x8x128, .f32⟩
  | .hbm, ⟨54, _⟩ => ⟨S2x2048x1024, .f32⟩
  | .hbm, ⟨55, _⟩ => ⟨S2x2048x8x128, .f32⟩
  | .hbm, ⟨56, _⟩ => ⟨S2x2048x8x64x2, .f32⟩
  | .hbm, ⟨57, _⟩ => ⟨S2x2048x8x64x1, .f32⟩
  | .hbm, ⟨58, _⟩ => ⟨S2x2048x8x64, .f32⟩
  | .hbm, ⟨59, _⟩ => ⟨S2x2048x8x64, .f32⟩
  | .hbm, ⟨60, _⟩ => ⟨S2x2048x8x64x1, .f32⟩
  | .hbm, ⟨61, _⟩ => ⟨S2x2048x8x64, .f32⟩
  | .hbm, ⟨62, _⟩ => ⟨S2x2048x8x64x1, .f32⟩
  | .hbm, ⟨63, _⟩ => ⟨S2x2048x8x64x1, .f32⟩
  | .hbm, ⟨64, _⟩ => ⟨S2x2048x8x64x2, .f32⟩
  | .hbm, ⟨65, _⟩ => ⟨S2x2048x8x128, .f32⟩
  | .hbm, ⟨66, _⟩ => ⟨S1x2048x1x128, .f32⟩
  | .hbm, ⟨67, _⟩ => ⟨S2x2048x8x128, .f32⟩
  | .hbm, ⟨68, _⟩ => ⟨S2x2048x8x128, .f32⟩
  | .hbm, ⟨69, _⟩ => ⟨S1x2048x1x128, .f32⟩
  | .hbm, ⟨70, _⟩ => ⟨S2x2048x8x128, .f32⟩
  | .hbm, ⟨71, _⟩ => ⟨S2x2048x8x128, .f32⟩
  | .hbm, ⟨72, _⟩ => ⟨S2x2048x8x128, .f32⟩
  | .hbm, ⟨73, _⟩ => ⟨S2x2048x1024, .f32⟩
  | .hbm, ⟨74, _⟩ => ⟨S2x2048x8x128, .f32⟩
  | .hbm, ⟨75, _⟩ => ⟨S2x8x2048x2048, .f32⟩
  | .hbm, ⟨76, _⟩ => ⟨S_, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048, .f32⟩
  | .hbm, ⟨81, _⟩ => ⟨S2x8x2048x1, .f32⟩
  | .hbm, ⟨82, _⟩ => ⟨S2x8x2048x2048, .f32⟩
  | .hbm, ⟨83, _⟩ => ⟨S2x8x2048x2048, .f32⟩
  | .hbm, ⟨84, _⟩ => ⟨S2x8x2048x2048, .f32⟩
  | .hbm, ⟨85, _⟩ => ⟨S_, .f32⟩
  | .hbm, ⟨86, _⟩ => ⟨S2x8x2048, .f32⟩
  | .hbm, ⟨87, _⟩ => ⟨S2x8x2048x1, .f32⟩
  | .hbm, ⟨88, _⟩ => ⟨S2x8x2048x2048, .f32⟩
  | .hbm, ⟨89, _⟩ => ⟨S2x8x2048x2048, .f32⟩
  | .hbm, ⟨90, _⟩ => ⟨S2x8x128x2048, .f32⟩
  | .hbm, ⟨91, _⟩ => ⟨S2x2048x8x128, .f32⟩
  | .hbm, ⟨92, _⟩ => ⟨S2x2048x1024, .f32⟩
  | .hbm, ⟨93, _⟩ => ⟨S2x2048x1024, .f32⟩
  | .hbm, ⟨94, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== Proof.Ideal.Protocol.lean ====
/-
  The ring of the attention kernel: what each device's semaphores count, who pays, what arrives with it.

  Device `c` sends slot `h` of its buffer `comm_r` to slot `h + 1` of its right neighbour's and slot `h` of `comm_l` to
  slot `h + 1` of its left neighbour's, for `h = 0, 1, 2`. Slot `k` of `comm_r` on `c` so comes to hold batch 0 of `x` of the
  device `k` steps to the left, slot `k` of `comm_l` batch 1 of `x` of the device `k` steps to the right.
  * the barrier cell of `c` counts two units: the right neighbour's (with it, slots 1 to 3 of that neighbour's `comm_r`) and
    the left neighbour's (with it, slots 1 to 3 of that neighbour's `comm_l`);
  * a send cell counts one transfer and gives back the half share of the slot that was lent to it;
  * a receive cell counts one transfer and gives the slot with its new contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the ring's, and the counters of the copies inside one device -/

abbrev UB : Type := URounds (GSem nD τ sig) Bool
abbrev UU : Type := UR sig nD τ × UB × Counters

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch. -/
def s₀ : MemSt nD τ sig (Elt F) := ⟨m, fun _ => 0, ρ⟩

abbrev 𝒱₀ : Variants := Variants.none

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)

/-- The ring as a permutation. -/
def ring : Dev nD ≃ Dev nD := ⟨nxt, prv, prv_nxt, nxt_prv⟩

/-! ## The slots -/

theorem inbSlot (k : ℕ) (hk : k < 4) : ∀ a, (![k, 0, 0] : Fin 3 → Nat) a + S1x512x1024.size a ≤ S4x512x1024.size a := by
  intro a; fin_cases a
  · show k + 1 ≤ 4; omega
  · show 0 + 512 ≤ 512; omega
  · show 0 + 1024 ≤ 1024; omega

/-- Slot `k` as a rectangle of a communication buffer. -/
abbrev slotR (k : ℕ) (hk : k < 4 := by decide) : Rect S4x512x1024 := Rect.unit (s := S4x512x1024) ![k, 0, 0] S1x512x1024.size (inbSlot k hk)

/-- Slot `k` of `comm_r`, as the transfers name it. -/
abbrev rM (k : ℕ) (hk : k < 4 := by decide) : Memref sig .tc .vmem S512x1024 .bf16 :=
  ((Memref.whole cc0_scratch0).slice (slotR k hk) (fun _ => rfl)).squeeze S512x1024 squeezes_S1x512x1024_S512x1024
/-- Slot `k` of `comm_l`. -/
abbrev lM (k : ℕ) (hk : k < 4 := by decide) : Memref sig .tc .vmem S512x1024 .bf16 :=
  ((Memref.whole cc0_scratch1).slice (slotR k hk) (fun _ => rfl)).squeeze S512x1024 squeezes_S1x512x1024_S512x1024

/-! ## The cells -/

abbrev barS : Sem sig := (SemArray.scalar (sig.barrier 0 rfl) : Sems sig S_).sem

theorem slR0 : ((cc0_scratch4.slice (Rect.unit (s := S3) ![0] S1.size inb_S3_S1_0)).squeeze S_ squeezes_S1_S_).sem = (⟨2, by decide⟩ : DmaSem sig) := rfl
theorem slR1 : ((cc0_scratch4.slice (Rect.unit (s := S3) ![1] S1.size inb_S3_S1_1)).squeeze S_ squeezes_S1_S_).sem = (⟨3, by decide⟩ : DmaSem sig) := rfl
theorem slR2 : ((cc0_scratch4.slice (Rect.unit (s := S3) ![2] S1.size inb_S3_S1_2)).squeeze S_ squeezes_S1_S_).sem = (⟨4, by decide⟩ : DmaSem sig) := rfl
theorem svR0 : ((cc0_scratch5.slice (Rect.unit (s := S3) ![0] S1.size inb_S3_S1_0)).squeeze S_ squeezes_S1_S_).sem = (⟨5, by decide⟩ : DmaSem sig) := rfl
theorem svR1 : ((cc0_scratch5.slice (Rect.unit (s := S3) ![1] S1.size inb_S3_S1_1)).squeeze S_ squeezes_S1_S_).sem = (⟨6, by decide⟩ : DmaSem sig) := rfl
theorem svR2 : ((cc0_scratch5.slice (Rect.unit (s := S3) ![2] S1.size inb_S3_S1_2)).squeeze S_ squeezes_S1_S_).sem = (⟨7, by decide⟩ : DmaSem sig) := rfl
theorem slL0 : ((cc0_scratch6.slice (Rect.unit (s := S3) ![0] S1.size inb_S3_S1_0)).squeeze S_ squeezes_S1_S_).sem = (⟨8, by decide⟩ : DmaSem sig) := rfl
theorem slL1 : ((cc0_scratch6.slice (Rect.unit (s := S3) ![1] S1.size inb_S3_S1_1)).squeeze S_ squeezes_S1_S_).sem = (⟨9, by decide⟩ : DmaSem sig) := rfl
theorem slL2 : ((cc0_scratch6.slice (Rect.unit (s := S3) ![2] S1.size inb_S3_S1_2)).squeeze S_ squeezes_S1_S_).sem = (⟨10, by decide⟩ : DmaSem sig) := rfl
theorem svL0 : ((cc0_scratch7.slice (Rect.unit (s := S3) ![0] S1.size inb_S3_S1_0)).squeeze S_ squeezes_S1_S_).sem = (⟨11, by decide⟩ : DmaSem sig) := rfl
theorem svL1 : ((cc0_scratch7.slice (Rect.unit (s := S3) ![1] S1.size inb_S3_S1_1)).squeeze S_ squeezes_S1_S_).sem = (⟨12, by decide⟩ : DmaSem sig) := rfl
theorem svL2 : ((cc0_scratch7.slice (Rect.unit (s := S3) ![2] S1.size inb_S3_S1_2)).squeeze S_ squeezes_S1_S_).sem = (⟨13, by decide⟩ : DmaSem sig) := rfl
theorem slW : cc0_scratch8.sem = (⟨14, by decide⟩ : DmaSem sig) := rfl

abbrev barCell (c : Dev nD) : GSem nD τ sig := ((c : Thread nD τ), .reg barS)
/-- The cell of DMA semaphore `k`. -/
abbrev dcell (c : Dev nD) (k : ℕ) (hk : k < 15 := by decide) : GSem nD τ sig := ((c : Thread nD τ), .dma (⟨k, hk⟩ : DmaSem sig))

/-- The kernel's own (scoped) semaphores: twelve of the ring, and the one of the copies inside the device. -/
abbrev osem : Fin 13 → SemLoc sig := fun k => .dma (⟨k.val + 2, by have := k.isLt; show k.val + 2 < 15; omega⟩ : DmaSem sig)
/-- The ring's cells of a device: the barrier, then the twelve. -/
abbrev csem : Fin 13 → SemLoc sig := fun k =>
  if k.val = 0 then .reg barS else .dma (⟨k.val + 1, by have := k.isLt; show k.val + 1 < 15; omega⟩ : DmaSem sig)
abbrev kcell (ck : Dev nD × Fin 13) : GSem nD τ sig := ((ck.1 : Thread nD τ), csem ck.2)

abbrev N : ℕ := (rM 0).view.amount (.dma (⟨2, by decide⟩ : DmaSem sig))
theorem N_pos : 0 < N := View.dmaCredit_pos _ (by decide)

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- What `comm_r` on device `c` is to hold: in slot `k`, batch 0 of `x` of the device `k` steps to the left. -/
def cR (c : Dev nD) : (cc0_scratch0 : Ref sig .tc).ty.Contents (Elt F) :=
  fun i => k0_pay4 (xstg m ρ (prv^[(i 0).val] c)) (fun | ⟨0, _⟩ => (0 : Fin 1) | ⟨1, _⟩ => i 1 | ⟨2, _⟩ => i 2)
/-- What `comm_l` on device `c` is to hold: in slot `k`, batch 1 of `x` of the device `k` steps to the right. -/
def cL (c : Dev nD) : (cc0_scratch1 : Ref sig .tc).ty.Contents (Elt F) :=
  fun i => k0_pay5 (xstg m ρ (nxt^[(i 0).val] c)) (fun | ⟨0, _⟩ => (0 : Fin 1) | ⟨1, _⟩ => i 1 | ⟨2, _⟩ => i 2)

/-- Slot `k` of `comm_r` on `c` at contents `f` of the buffer. -/
abbrev rPts (k : ℕ) (hk : k < 4) (c : Dev nD) (q : PosShare TreeShare) (f : (cc0_scratch0 : Ref sig .tc).ty.Contents (Elt F)) : sProp 𝕄 :=
  (rM k hk).view.loc (c : Thread nD τ) ↦[(rM k hk).view.set]{q} f
abbrev lPts (k : ℕ) (hk : k < 4) (c : Dev nD) (q : PosShare TreeShare) (f : (cc0_scratch1 : Ref sig .tc).ty.Contents (Elt F)) : sProp 𝕄 :=
  (lM k hk).view.loc (c : Thread nD τ) ↦[(lM k hk).view.set]{q} f

/-! ### Geometry of the slots -/

theorem rM_emb0 (k : ℕ) (hk : k < 4) (x : S512x1024.Idx) : (((rM k hk).view.emb x (0 : Fin 3) : Fin 4) : ℕ) = k := by
  show k + 1 * (((Shape.reshapeEquiv squeezes_S1x512x1024_S512x1024.numel_eq x) (0 : Fin 3) : Fin 1) : ℕ) = k
  have h : (((Shape.reshapeEquiv squeezes_S1x512x1024_S512x1024.numel_eq x) (0 : Fin 3) : Fin 1) : ℕ) = 0 := Fin.val_eq_zero _
  omega
theorem rM_emb1 (k : ℕ) (hk : k < 4) (x : S512x1024.Idx) : (((rM k hk).view.emb x (1 : Fin 3) : Fin 512) : ℕ)
    = ((Shape.reshapeEquiv squeezes_S1x512x1024_S512x1024.numel_eq x) (1 : Fin 3) : Fin 512) := by
  show 0 + 1 * (((Shape.reshapeEquiv squeezes_S1x512x1024_S512x1024.numel_eq x) (1 : Fin 3) : Fin 512) : ℕ) = _
  omega
theorem rM_emb2 (k : ℕ) (hk : k < 4) (x : S512x1024.Idx) : (((rM k hk).view.emb x (2 : Fin 3) : Fin 1024) : ℕ)
    = ((Shape.reshapeEquiv squeezes_S1x512x1024_S512x1024.numel_eq x) (2 : Fin 3) : Fin 1024) := by
  show 0 + 1 * (((Shape.reshapeEquiv squeezes_S1x512x1024_S512x1024.numel_eq x) (2 : Fin 3) : Fin 1024) : ℕ) = _
  omega
theorem lM_emb0 (k : ℕ) (hk : k < 4) (x : S512x1024.Idx) : (((lM k hk).view.emb x (0 : Fin 3) : Fin 4) : ℕ) = k := rM_emb0 k hk x
theorem lM_emb1 (k : ℕ) (hk : k < 4) (x : S512x1024.Idx) : (((lM k hk).view.emb x (1 : Fin 3) : Fin 512) : ℕ)
    = ((Shape.reshapeEquiv squeezes_S1x512x1024_S512x1024.numel_eq x) (1 : Fin 3) : Fin 512) := rM_emb1 k hk x
theorem lM_emb2 (k : ℕ) (hk : k < 4) (x : S512x1024.Idx) : (((lM k hk).view.emb x (2 : Fin 3) : Fin 1024) : ℕ)
    = ((Shape.reshapeEquiv squeezes_S1x512x1024_S512x1024.numel_eq x) (2 : Fin 3) : Fin 1024) := rM_emb2 k hk x

/-- What lands in slot `k + 1` on the right is what that slot is to hold. -/
theorem cR_hop (k : ℕ) (hk : k < 4) (hk' : k + 1 < 4) (c : Dev nD) (x : S512x1024.Idx) :
    cR m ρ (nxt c) ((rM (k + 1) hk').view.emb x) = cR m ρ c ((rM k hk).view.emb x) := by
  unfold cR
  have h0 := rM_emb0 k hk x
  have h0' := rM_emb0 (k + 1) hk' x
  have h1 : ((rM (k + 1) hk').view.emb x (1 : Fin 3) : Fin 512) = (rM k hk).view.emb x (1 : Fin 3) :=
    Fin.ext ((rM_emb1 (k + 1) hk' x).trans (rM_emb1 k hk x).symm)
  have h2 : ((rM (k + 1) hk').view.emb x (2 : Fin 3) : Fin 1024) = (rM k hk).view.emb x (2 : Fin 3) :=
    Fin.ext ((rM_emb2 (k + 1) hk' x).trans (rM_emb2 k hk x).symm)
  have hd : prv^[((rM (k + 1) hk').view.emb x (0 : Fin 3) : Fin 4).val] (nxt c) = prv^[((rM k hk).view.emb x (0 : Fin 3) : Fin 4).val] c := by
    rw [h0, h0', Function.iterate_succ_apply, prv_nxt]
  exact congr (congrArg (fun d => k0_pay4 (xstg m ρ d)) hd) (funext fun a => by
    match a with
    | ⟨0, _⟩ => rfl
    | ⟨1, _⟩ => exact h1
    | ⟨2, _⟩ => exact h2)

theorem cL_hop (k : ℕ) (hk : k < 4) (hk' : k + 1 < 4) (c : Dev nD) (x : S512x1024.Idx) :
    cL m ρ (prv c) ((lM (k + 1) hk').view.emb x) = cL m ρ c ((lM k hk).view.emb x) := by
  unfold cL
  have h0 := lM_emb0 k hk x
  have h0' := lM_emb0 (k + 1) hk' x
  have h1 : ((lM (k + 1) hk').view.emb x (1 : Fin 3) : Fin 512) = (lM k hk).view.emb x (1 : Fin 3) :=
    Fin.ext ((lM_emb1 (k + 1) hk' x).trans (lM_emb1 k hk x).symm)
  have h2 : ((lM (k + 1) hk').view.emb x (2 : Fin 3) : Fin 1024) = (lM k hk).view.emb x (2 : Fin 3) :=
    Fin.ext ((lM_emb2 (k + 1) hk' x).trans (lM_emb2 k hk x).symm)
  have hd : nxt^[((lM (k + 1) hk').view.emb x (0 : Fin 3) : Fin 4).val] (prv c) = nxt^[((lM k hk).view.emb x (0 : Fin 3) : Fin 4).val] c := by
    rw [h0, h0', Function.iterate_succ_apply, nxt_prv]
  exact congr (congrArg (fun d => k0_pay5 (xstg m ρ d)) hd) (funext fun a => by
    match a with
    | ⟨0, _⟩ => rfl
    | ⟨1, _⟩ => exact h1
    | ⟨2, _⟩ => exact h2)

/-- A transfer of slot `k` to the right, landed. -/
theorem landR (k : ℕ) (hk : k < 4) (hk' : k + 1 < 4) (c : Dev nD) (fd : Buf (Elt F) ((rM (k + 1) hk').view.loc (nxt c : Thread nD τ))) :
    ((rM (k + 1) hk').view.loc (nxt c : Thread nD τ) ↦[(rM (k + 1) hk').view.set]{fullShare}
        ((rM (k + 1) hk').view.write (Elt F) fd ((rM k hk).view.read (Elt F) (cR m ρ c)) Finset.univ) : sProp 𝕄)
      = rPts (k + 1) hk' (nxt c) fullShare (cR m ρ (nxt c)) := by
  refine pointsTo_congr fun i hi => ?_
  obtain ⟨x, _, rfl⟩ := Finset.mem_map.mp hi
  exact (View.write_emb_of_mem _ _ (Finset.mem_univ x)).trans (cR_hop m ρ k hk hk' c x).symm
/-- A transfer of slot `k` to the left, landed. -/
theorem landL (k : ℕ) (hk : k < 4) (hk' : k + 1 < 4) (c : Dev nD) (fd : Buf (Elt F) ((lM (k + 1) hk').view.loc (prv c : Thread nD τ))) :
    ((lM (k + 1) hk').view.loc (prv c : Thread nD τ) ↦[(lM (k + 1) hk').view.set]{fullShare}
        ((lM (k + 1) hk').view.write (Elt F) fd ((lM k hk).view.read (Elt F) (cL m ρ c)) Finset.univ) : sProp 𝕄)
      = lPts (k + 1) hk' (prv c) fullShare (cL m ρ (prv c)) := by
  refine pointsTo_congr fun i hi => ?_
  obtain ⟨x, _, rfl⟩ := Finset.mem_map.mp hi
  exact (View.write_emb_of_mem _ _ (Finset.mem_univ x)).trans (cL_hop m ρ k hk hk' c x).symm

/-! ## The schedule -/

/-- Slots 1 to 3 of `comm_r` on `c`, at any contents. -/
def rFree (c : Dev nD) : sProp 𝕄 :=
  iprop((∃ f, rPts 1 (by decide) c fullShare f) ∗ (∃ f, rPts 2 (by decide) c fullShare f) ∗ (∃ f, rPts 3 (by decide) c fullShare f))
/-- Slots 1 to 3 of `comm_l` on `c`, at any contents. -/
def lFree (c : Dev nD) : sProp 𝕄 :=
  iprop((∃ f, lPts 1 (by decide) c fullShare f) ∗ (∃ f, lPts 2 (by decide) c fullShare f) ∗ (∃ f, lPts 3 (by decide) c fullShare f))

/-- What a device's DMA cells give. -/
def dpay (c : Dev nD) (q : ℕ) : sProp 𝕄 := match q with
  | 2 => rPts 0 (by decide) c fullShare.left (cR m ρ c)
  | 3 => rPts 1 (by decide) c fullShare.left (cR m ρ c)
  | 4 => rPts 2 (by decide) c fullShare.left (cR m ρ c)
  | 5 => rPts 1 (by decide) c fullShare (cR m ρ c)
  | 6 => rPts 2 (by decide) c fullShare (cR m ρ c)
  | 7 => rPts 3 (by decide) c fullShare (cR m ρ c)
  | 8 => lPts 0 (by decide) c fullShare.left (cL m ρ c)
  | 9 => lPts 1 (by decide) c fullShare.left (cL m ρ c)
  | 10 => lPts 2 (by decide) c fullShare.left (cL m ρ c)
  | 11 => lPts 1 (by decide) c fullShare (cL m ρ c)
  | 12 => lPts 2 (by decide) c fullShare (cL m ρ c)
  | 13 => lPts 3 (by decide) c fullShare (cL m ρ c)
  | _ => iprop(emp)

/-- The schedule: one round. The barrier cell has the duties `true` (paid by the right neighbour, with its `comm_r`) and `false` (paid by the
    left neighbour, with its `comm_l`), of one unit each; the cell of DMA semaphore 2 to 13 the duty `false` of one slot's credit. -/
def rd : Rounds.Schedule (GSem nD τ sig) Bool 𝕄 where
  duties g r := if r = 0 ∧ g.1.2 = .tc then (match g.2 with
    | .reg q => if q = barS then Finset.univ else ∅
    | .dma q => if 2 ≤ q.val ∧ q.val ≤ 13 then {false} else ∅) else ∅
  unitless _ := False
  amount g _ _ := match g.2 with
    | .reg _ => 1
    | .dma _ => N
  payload g _ d := match g.2 with
    | .reg _ => if d then rFree (nxt g.1.1) else lFree (prv g.1.1)
    | .dma q => dpay m ρ g.1.1 q.val
  amount_pos g _ _ _ := by
    cases g.2
    · exact Nat.one_pos
    · exact N_pos

instance rd_payload_storable (g : GSem nD τ sig) (r : ℕ) (d : Bool) :
    BI.Storable (upEmb : UEmb _ 𝕄) ((rd (F := F) m ρ).payload g r d) := by
  obtain ⟨t, sm⟩ := g
  cases sm with
  | reg q =>
    show BI.Storable upEmb (if d then rFree (nxt t.1) else lFree (prv t.1))
    unfold rFree lFree
    split <;> infer_instance
  | dma q =>
    show BI.Storable upEmb (dpay m ρ t.1 q.val)
    unfold dpay
    split <;> infer_instance

section Sched
variable (c : Dev nD)

theorem duties_bar : (rd (F := F) m ρ).duties (barCell c) 0 = {true, false} := by
  dsimp only [rd]; rw [if_pos ⟨rfl, rfl⟩]; exact (if_pos rfl).trans (by decide)
theorem duties_dma (k : ℕ) (hk : k < 15) (h2 : 2 ≤ k ∧ k ≤ 13) : (rd (F := F) m ρ).duties (dcell c k hk) 0 = {false} := by
  dsimp only [rd]; rw [if_pos ⟨rfl, rfl⟩]; exact if_pos h2
theorem duties_later (g : GSem nD τ sig) : ∀ r, 1 ≤ r → (rd (F := F) m ρ).duties g r = ∅ :=
  fun r hr => by dsimp only [rd]; rw [if_neg fun h => by omega]
theorem amount_bar (d : Bool) : (rd (F := F) m ρ).amount (barCell c) 0 d = 1 := rfl
theorem amount_dma (k : ℕ) (hk : k < 15) (d : Bool) : (rd (F := F) m ρ).amount (dcell c k hk) 0 d = N := rfl
theorem expect_bar : (rd (F := F) m ρ).expect (barCell c) 0 = 2 := by
  unfold Schedule.expect Schedule.amountOf
  rw [duties_bar]; rfl
theorem expect_dma (k : ℕ) (hk : k < 15) (h2 : 2 ≤ k ∧ k ≤ 13) : (rd (F := F) m ρ).expect (dcell c k hk) 0 = N := by
  unfold Schedule.expect Schedule.amountOf; rw [duties_dma m ρ c k hk h2, Finset.sum_singleton, amount_dma]
theorem payload_bar_true : (rd (F := F) m ρ).payload (barCell c) 0 true = rFree (nxt c) := rfl
theorem payload_bar_false : (rd (F := F) m ρ).payload (barCell c) 0 false = lFree (prv c) := rfl
theorem payload_dma (k : ℕ) (hk : k < 15) (d : Bool) : (rd (F := F) m ρ).payload (dcell c k hk) 0 d = dpay m ρ c k := rfl

/-- The whole round of the barrier cell. -/
theorem rest_bar : bigSep ((rd (F := F) m ρ).duties (barCell c) 0 \ ∅) (fun d => (rd (F := F) m ρ).payload (barCell c) 0 d)
    = iprop(rFree (nxt c) ∗ lFree (prv c)) := by
  rw [Finset.sdiff_empty, duties_bar, bigSep_insert (by decide), bigSep_singleton, payload_bar_true, payload_bar_false]; rfl
theorem rest_dma (k : ℕ) (hk : k < 15) (h2 : 2 ≤ k ∧ k ≤ 13) :
    bigSep ((rd (F := F) m ρ).duties (dcell c k hk) 0 \ ∅) (fun d => (rd (F := F) m ρ).payload (dcell c k hk) 0 d) = dpay m ρ c k := by
  rw [Finset.sdiff_empty, duties_dma m ρ c k hk h2, bigSep_singleton, payload_dma]

end Sched

/-! ## What each device owes; the levels -/

/-- The cells device `c` pays, the last one first. -/
def payCell (c : Dev nD) : ℕ → GSem nD τ sig
  | 0 => dcell (prv c) 13
  | 1 => dcell (nxt c) 7
  | 2 => dcell (prv c) 12
  | 3 => dcell (nxt c) 6
  | 4 => dcell (prv c) 11
  | 5 => dcell (nxt c) 5
  | 6 => barCell (nxt c)
  | _ => barCell (prv c)
def payAmt (k : ℕ) : ℕ := if 6 ≤ k then 1 else N
/-- What it still owes with `k` payments to come. -/
def owed (c : Dev nD) : ℕ → CellTallies nD τ sig Unit
  | 0 => 0
  | k + 1 => owed c k + tallyAt (payCell c k) () (payAmt k)

def L (g : GSem nD τ sig) : Finset Unit := if g.1.2 = .tc then {()} else ∅
/-- Barrier cells at 1, the receive cells of hop `h` at `2 + h`, everything else at 0. -/
def lv (g : GSem nD τ sig) (_ : Unit) : ℕ := match g.2 with
  | .reg _ => 1
  | .dma q => match q.val with
    | 5 => 2 | 6 => 3 | 7 => 4 | 11 => 2 | 12 => 3 | 13 => 4 | _ => 0

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {g : GSem nD τ sig} {u : Unit} : ∀ {k : ℕ}, 0 < owed c k g u → ∃ j < k, g = payCell c j
  | 0, h => absurd h (Nat.lt_irrefl 0)
  | k + 1, h => by
    unfold owed at h
    rw [Pi.add_apply, Finsupp.add_apply, tallyAt_apply] at h
    by_cases hg : g = payCell c k ∧ u = ()
    · exact ⟨k, Nat.lt_succ_self k, hg.1⟩
    · rw [if_neg hg, Nat.add_zero] at h
      obtain ⟨j, hj, e⟩ := owed_pos h
      exact ⟨j, Nat.lt_succ_of_lt hj, e⟩

theorem payCell_tc (c : Dev nD) (j : ℕ) : (payCell c j).1.2 = .tc := by
  unfold payCell; split <;> rfl

/-- A wait on a cell below everything still owed. -/
theorem mayWait (c : Dev nD) (sm : SemLoc sig) (k n : ℕ) (hn : lv ((c : Thread nD τ), sm) () ≤ n)
    (h : ∀ j < k, n < lv (payCell c j) ()) : (levAts L lv : sProp 𝕄) ⊢ MayWait (c : Thread nD τ) sm () (owed c k) :=
  MayOwe.of_cut (L := L) (lev := lv) n (fun p hp => by rw [Finset.mem_singleton.mp hp, L_tc]; exact Finset.mem_singleton_self _)
    (fun g u hg => by obtain ⟨j, _, rfl⟩ := owed_pos hg; rw [L, if_pos (payCell_tc c j)]; exact Finset.mem_singleton_self _)
    (fun p hp => by rw [Finset.mem_singleton.mp hp]; exact hn)
    (fun g u hg => by obtain ⟨j, hj, rfl⟩ := owed_pos hg; exact h j hj)

theorem lv_payCell (c : Dev nD) (j : ℕ) : 0 < lv (payCell c j) () := by
  unfold payCell; split <;> first | exact Nat.one_pos | exact (by decide : 0 < 2) | exact (by decide : 0 < 3) | exact (by decide : 0 < 4)

theorem mayWait_low (c : Dev nD) (sm : SemLoc sig) (k : ℕ) (h0 : lv ((c : Thread nD τ), sm) () = 0) :
    (levAts L lv : sProp 𝕄) ⊢ MayWait (c : Thread nD τ) sm () (owed c k) :=
  mayWait c sm k 0 h0.le fun j _ => lv_payCell c j

end Cert.KernelIdeal.Ring

end
-- ==== Proof.Ideal.Value.lean ====
/-
  What the attention kernel computes, piece by piece: the values its body passes from one part to the next, named by hop, batch and head.
-/
module

public import proofs.«01_k».proof.Proof.Ideal.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI

variable {F : FTy → Type} [FloatOps F]

/-! ## Slices at a variable batch and head -/

theorem slicesB (b : Fin 2) : S1024x1024.Slices ![512 * b.val, 0] S512x1024 := by revert b; decide
theorem slicesH (h : Fin 8) : S512x1024.Slices ![0, 128 * h.val] S512x128 := by revert h; decide

/-- Batch `b` of the stacked rows. -/
def rowsB {ε : FTy} (b : Fin 2) (x : FVec F S1024x1024 ε) : FVec F S512x1024 ε := extractStridedSlice S512x1024 ![512 * b.val, 0] x (slicesB b)
/-- Head `h` of the columns. -/
def colsH {ε : FTy} (h : Fin 8) (x : FVec F S512x1024 ε) : FVec F S512x128 ε := extractStridedSlice S512x128 ![0, 128 * h.val] x (slicesH h)

/-! ## Rotary tables -/

abbrev lane : IVec S512x128 32 := iota .tc S512x128 32 [1] iota_S512x128_d1_w32
/-- The frequencies. -/
def freq : FVec F S512x128 .f32 := k0_pay9 (F := F) lane 2#32
def cosS : FVec F S512x128 .bf16 := k0_pay11 (F := F) lane 2#32
def sinS : FVec F S512x128 .bf16 := k0_pay12 (F := F) lane 2#32

/-- The device's number, as the kernel has it. -/
def my (c : Dev nD) : BitVec 32 := Scalar.remsi (Scalar.divsi (Dev.word c) 1#32) 4#32

/-- The angle at the first row of the device `d` steps to the right. -/
def angO (c : Dev nD) (d : ℕ) : FVec F S1x128 .f32 :=
  mulf (broadcast S1x128 (Scalar.sitofp .f32 (Scalar.muli (Scalar.remsi (Scalar.addi (my c) (BitVec.ofNat 32 d)) 4#32) 512#32)))
    (extractStridedSlice S1x128 ![0, 0] (freq (F := F)) slices_S512x128_o0_0_S1x128)
def cosO (c : Dev nD) (d : ℕ) : FVec F S1x128 .bf16 := truncf .bf16 (cos (angO (F := F) c d)) bitsLt_bf16_f32
def sinO (c : Dev nD) (d : ℕ) : FVec F S1x128 .bf16 := truncf .bf16 (sin (angO (F := F) c d)) bitsLt_bf16_f32

/-- A table of one head, repeated for the eight heads. -/
def rep8 (v : FVec F S512x128 .bf16) : FVec F S512x1024 .bf16 :=
  concatenate S512x1024 1 [⟨S512x128, v⟩, ⟨S512x128, v⟩, ⟨S512x128, v⟩, ⟨S512x128, v⟩, ⟨S512x128, v⟩, ⟨S512x128, v⟩, ⟨S512x128, v⟩, ⟨S512x128, v⟩]
    concatenates_S512x128_S512x128_S512x128_S512x128_S512x128_S512x128_S512x128_S512x128_S512x1024_d1
/-- The table of cosines of the rows of the device `d` steps to the right. -/
def cosT (c : Dev nD) (d : ℕ) : FVec F S512x1024 .bf16 :=
  rep8 (subf (mulf (broadcastTo S512x128 (cosO (F := F) c d) broadcasts_S1x128_S512x128) cosS)
    (mulf (broadcastTo S512x128 (sinO (F := F) c d) broadcasts_S1x128_S512x128) sinS))
def sinT (c : Dev nD) (d : ℕ) : FVec F S512x1024 .bf16 :=
  rep8 (addf (mulf (broadcastTo S512x128 (sinO (F := F) c d) broadcasts_S1x128_S512x128) cosS)
    (mulf (broadcastTo S512x128 (cosO (F := F) c d) broadcasts_S1x128_S512x128) sinS))

/-- The rotary embedding of one batch's rows. -/
def rope (t cs sn : FVec F S512x1024 .bf16) : FVec F S512x1024 .bf16 :=
  addf (mulf t cs)
    (mulf (select k0_pay13
        (subf (broadcast S512x1024 (Scalar.ofBits .bf16 0x0000#16)) (dynamicRotate 1 1023#32 none t rotates_S512x1024_d1))
        (dynamicRotate 1 1#32 none t rotates_S512x1024_d1)) sn)

/-- How many devices to the right of `c` the rows come from that batch `b` meets at hop `j`. -/
def dist (j : ℕ) (b : Fin 2) : ℕ := match b with
  | 0 => (4 - j) % 4
  | 1 => j

/-! ## The products -/

variable (m : (ℓ : Loc nD τ sig) → Buf (Elt F) ℓ) (ρ : Dev nD → PrngReg) (c : Dev nD)

def wq : FVec F S1024x1024 .f32 := m ((c : Thread nD τ).loc main_arg1)
def wk : FVec F S1024x1024 .f32 := m ((c : Thread nD τ).loc main_arg2)
def wv : FVec F S1024x1024 .f32 := m ((c : Thread nD τ).loc main_arg3)
def wo : FVec F S1024x1024 .f32 := m ((c : Thread nD τ).loc main_arg4)

/-- The rows device `c` works on at hop `j`: its own, then for batch 0 those that came from the left and for batch 1 those from the right. -/
def xcat (j : ℕ) : FVec F S1024x1024 .bf16 := match j with
  | 0 => k0_pay3 (xstg m ρ c)
  | j + 1 => k0_pay82 (k0_pay4 (xstg m ρ (prv^[j + 1] c))) (k0_pay5 (xstg m ρ (nxt^[j + 1] c)))

/-- A product rounded to bf16. -/
def prod (x w : FVec F S1024x1024 .bf16) : FVec F S1024x1024 .bf16 :=
  truncf .bf16 (matmul dot_S1024x1024_S1024x1024_S1024x1024_1_0_0_1_n_n none x w (constant S1024x1024 .f32 0x00000000#32)) bitsLt_bf16_f32

def xq : FVec F S1024x1024 .bf16 := prod (xcat m ρ c 0) (k0_pay6 (wq m c))
def xk (j : ℕ) : FVec F S1024x1024 .bf16 := prod (xcat m ρ c j) (k0_pay7 (wk m c))
def xv (j : ℕ) : FVec F S1024x1024 .bf16 := prod (xcat m ρ c j) (k0_pay8 (wv m c))

/-- Queries, keys and values of batch `b`. -/
def qq (b : Fin 2) : FVec F S512x1024 .bf16 := rope (rowsB b (xq m ρ c)) (cosT c 0) (sinT c 0)
def kk (j : ℕ) (b : Fin 2) : FVec F S512x1024 .bf16 := rope (rowsB b (xk m ρ c j)) (cosT c (dist j b)) (sinT c (dist j b))
def vv (j : ℕ) (b : Fin 2) : FVec F S512x1024 .bf16 := rowsB b (xv m ρ c j)

/-! ## The scores and the running sums -/

/-- Exponentials of the scores of hop `j`. -/
def pp (j : ℕ) (b : Fin 2) (h : Fin 8) : FVec F S512x512 .f32 :=
  exp (matmul dot_S512x128_S512x128_S512x512_1_1_0_0_n_n none (colsH h (qq m ρ c b)) (colsH h (kk m ρ c j b)) (constant S512x512 .f32 0x00000000#32))
def rsum (j : ℕ) (b : Fin 2) (h : Fin 8) : FVec F S512 .f32 :=
  multiReduction .add [1] S512 (pp m ρ c j b h) 0x00000000#32 reduces_S512x512_S512 (.inl rfl) rfl
def dl (j : ℕ) (b : Fin 2) (h : Fin 8) : FVec F S512x1 .f32 := shapeCast S512x1 (rsum m ρ c j b h) shapeCasts_S512_S512x1
def pb (j : ℕ) (b : Fin 2) (h : Fin 8) : FVec F S512x512 .bf16 := truncf .bf16 (pp m ρ c j b h) bitsLt_bf16_f32
def da (j : ℕ) (b : Fin 2) (h : Fin 8) : FVec F S512x128 .f32 :=
  matmul dot_S512x512_S512x128_S512x128_1_0_0_1_n_n none (pb m ρ c j b h) (colsH h (vv m ρ c j b)) (constant S512x128 .f32 0x00000000#32)
/-- The running sum of the exponentials after hop `j`. -/
def ll (j : ℕ) (b : Fin 2) (h : Fin 8) : FVec F S512x1 .f32 := match j with
  | 0 => dl m ρ c 0 b h
  | j + 1 => addf (ll j b h) (dl m ρ c (j + 1) b h)
/-- The running weighted sum of the values. -/
def aa (j : ℕ) (b : Fin 2) (h : Fin 8) : FVec F S512x128 .f32 := match j with
  | 0 => da m ρ c 0 b h
  | j + 1 => addf (aa j b h) (da m ρ c (j + 1) b h)

/-- The reciprocal of a head's sum. -/
def linv (b : Fin 2) (h : Fin 8) : FVec F S512x1 .f32 := divf (broadcast S512x1 (Scalar.ofBits .f32 0x3F800000#32)) (ll m ρ c 3 b h)
/-- The attention of one head. -/
def ctx (b : Fin 2) (h : Fin 8) : FVec F S512x128 .bf16 :=
  truncf .bf16 (mulf (aa m ρ c 3 b h) (broadcastTo S512x128 (linv m ρ c b h) broadcasts_S512x1_S512x128)) bitsLt_bf16_f32

/-! ## The buffer of the queries, then of the attention -/

/-- The queries of both batches, stacked. -/
def qbuf : FVec F S1024x1024 .bf16 := fun i =>
  qq m ρ c ⟨(i 0).val / 512, by have := (i 0).isLt; change (i 0).val < 1024 at this; omega⟩ (fun
    | ⟨0, _⟩ => (⟨(i 0).val % 512, Nat.mod_lt _ (by decide)⟩ : Fin 512)
    | ⟨1, _⟩ => (i 1 : Fin 1024))
/-- The attention of both batches and all heads. -/
def cbuf : FVec F S1024x1024 .bf16 := fun i =>
  ctx m ρ c ⟨(i 0).val / 512, by have := (i 0).isLt; change (i 0).val < 1024 at this; omega⟩
    ⟨(i 1).val / 128, by have := (i 1).isLt; change (i 1).val < 1024 at this; omega⟩ (fun
    | ⟨0, _⟩ => (⟨(i 0).val % 512, Nat.mod_lt _ (by decide)⟩ : Fin 512)
    | ⟨1, _⟩ => (⟨(i 1).val % 128, Nat.mod_lt _ (by decide)⟩ : Fin 128))

/-- The kernel's result on device `c`. -/
def outAt : FVec F S2x512x1024 .bf16 := k0_pay2 (wo m c) (cbuf m ρ c)

end Cert.KernelIdeal.Ring

end
-- ==== Proof.Ideal.Cuts.lean ====
/-
  The steps of the body that more than one of its parts takes: a hop's transfers and waits, at a variable hop.
-/
module

public import proofs.«01_k».proof.Proof.Ideal.Value

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 13 → ℕ) (c : Dev nD)

/-- The weakest precondition on device `c`. -/
abbrev Wp {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A call of a part: its result is `v`, and what it leaves goes to what follows. -/
theorem wp_call {α β : Type} {R S : sProp 𝕄} {p : Prog (TpuEff nD τ sig (Elt F) Λ₀ .tc) α} {v : α}
    (h : R ⊢ Wp c p (fun r => iprop(⌜r = v⌝ ∗ S))) {k : α → Prog (TpuEff nD τ sig (Elt F) Λ₀ .tc) β} {Q : β → sProp 𝕄} :
    R ⊢ iprop((S -∗ Wp c (k v) Q) -∗ Wp c (p >>= k) Q) := by
  unfold Wp
  rw [wp_bind]
  iintro HR Hk
  iapply wp_wand_r
  isplitl [HR]
  · iapply h; iexact HR
  iintro %r ⟨%e, HS⟩
  subst e
  iapply Hk
  iexact HS

/-- Device `c` still owes its last `k` payments. -/
def ow (k : ℕ) : sProp 𝕄 := iprop(∃ W, owes (c : Thread nD τ) (owed c k) W)

/-! ## The resources of a hop -/

/-- The cells of hop `a` to the right. -/
def iR (a : ℕ) (ha : a < 3) : sProp 𝕄 :=
  iprop(cellInv ER (rd m ρ) (K (c, ⟨1 + a, by omega⟩)) (dcell c (2 + a) (by omega))
    ∗ cellInv ER (rd m ρ) (K (c, ⟨4 + a, by omega⟩)) (dcell c (5 + a) (by omega))
    ∗ cellInv ER (rd m ρ) (K (nxt c, ⟨4 + a, by omega⟩)) (dcell (nxt c) (5 + a) (by omega))
    ∗ reached ER (dcell c (2 + a) (by omega)) 0 ∗ reached ER (dcell (nxt c) (5 + a) (by omega)) 0 ∗ levAts L lv)
/-- The cells of hop `a` to the left. -/
def iL (a : ℕ) (ha : a < 3) : sProp 𝕄 :=
  iprop(cellInv ER (rd m ρ) (K (c, ⟨7 + a, by omega⟩)) (dcell c (8 + a) (by omega))
    ∗ cellInv ER (rd m ρ) (K (c, ⟨10 + a, by omega⟩)) (dcell c (11 + a) (by omega))
    ∗ cellInv ER (rd m ρ) (K (prv c, ⟨10 + a, by omega⟩)) (dcell (prv c) (11 + a) (by omega))
    ∗ reached ER (dcell c (8 + a) (by omega)) 0 ∗ reached ER (dcell (prv c) (11 + a) (by omega)) 0 ∗ levAts L lv)
instance iR_persistent (a : ℕ) (ha : a < 3) : BI.Persistent (iR (F := F) m ρ K c a ha) := by unfold iR; infer_instance
instance iL_persistent (a : ℕ) (ha : a < 3) : BI.Persistent (iL (F := F) m ρ K c a ha) := by unfold iL; infer_instance

/-- Before the transfer to the right. -/
def inR (a : ℕ) (ha : a < 3) : sProp 𝕄 :=
  iprop(iR m ρ K c a ha ∗ dutyTok ER (dcell c (2 + a) (by omega)) 0 false ∗ dutyTok ER (dcell (nxt c) (5 + a) (by omega)) 0 false
    ∗ atPos ER (dcell c (2 + a) (by omega)) 0 ∅ 0 ∗ atPos ER (dcell c (5 + a) (by omega)) 0 ∅ 0 ∗ cred (tallyAt (dcell c (5 + a) (by omega)) () N))
def inL (a : ℕ) (ha : a < 3) : sProp 𝕄 :=
  iprop(iL m ρ K c a ha ∗ dutyTok ER (dcell c (8 + a) (by omega)) 0 false ∗ dutyTok ER (dcell (prv c) (11 + a) (by omega)) 0 false
    ∗ atPos ER (dcell c (8 + a) (by omega)) 0 ∅ 0 ∗ atPos ER (dcell c (11 + a) (by omega)) 0 ∅ 0 ∗ cred (tallyAt (dcell c (11 + a) (by omega)) () N))
/-- In flight. -/
def flR (a : ℕ) (ha : a < 3) : sProp 𝕄 :=
  iprop(iR m ρ K c a ha ∗ atPos ER (dcell c (2 + a) (by omega)) 0 ∅ 0 ∗ atPos ER (dcell c (5 + a) (by omega)) 0 ∅ 0
    ∗ cred (tallyAt (dcell c (2 + a) (by omega)) () N) ∗ cred (tallyAt (dcell c (5 + a) (by omega)) () N))
def flL (a : ℕ) (ha : a < 3) : sProp 𝕄 :=
  iprop(iL m ρ K c a ha ∗ atPos ER (dcell c (8 + a) (by omega)) 0 ∅ 0 ∗ atPos ER (dcell c (11 + a) (by omega)) 0 ∅ 0
    ∗ cred (tallyAt (dcell c (8 + a) (by omega)) () N) ∗ cred (tallyAt (dcell c (11 + a) (by omega)) () N))
/-- The slot lent is back; the other has not been waited for. -/
def mdR (a : ℕ) (ha : a < 3) : sProp 𝕄 :=
  iprop(iR m ρ K c a ha ∗ atPos ER (dcell c (2 + a) (by omega)) 1 ∅ 0 ∗ atPos ER (dcell c (5 + a) (by omega)) 0 ∅ 0
    ∗ cred (tallyAt (dcell c (5 + a) (by omega)) () N))
def mdL (a : ℕ) (ha : a < 3) : sProp 𝕄 :=
  iprop(iL m ρ K c a ha ∗ atPos ER (dcell c (8 + a) (by omega)) 1 ∅ 0 ∗ atPos ER (dcell c (11 + a) (by omega)) 0 ∅ 0
    ∗ cred (tallyAt (dcell c (11 + a) (by omega)) () N))
/-- Both waits done. -/
def dnR (a : ℕ) (ha : a < 3) : sProp 𝕄 :=
  iprop(iR m ρ K c a ha ∗ atPos ER (dcell c (2 + a) (by omega)) 1 ∅ 0 ∗ atPos ER (dcell c (5 + a) (by omega)) 1 ∅ 0)
def dnL (a : ℕ) (ha : a < 3) : sProp 𝕄 :=
  iprop(iL m ρ K c a ha ∗ atPos ER (dcell c (8 + a) (by omega)) 1 ∅ 0 ∗ atPos ER (dcell c (11 + a) (by omega)) 1 ∅ 0)

/-- Once both waits of a hop are done its two cells' counters are the device's again, at zero. -/
theorem closeR (a : ℕ) (ha : a < 3) : dnR (F := F) m ρ K c a ha
    ⊢ |={Set.univ}=> iprop(semVal (dcell c (2 + a) (by omega)) 0 ∗ semVal (dcell c (5 + a) (by omega)) 0) := by
  unfold dnR iR
  iintro ⟨⟨#H1, #H2, -, -, -, -⟩, Ha, Hb⟩
  imod (Rounds.cell_close ER (rd m ρ) (Set.mem_univ (K (c, ⟨1 + a, by omega⟩))) (fun h => h) (R := 0 + 1) (duties_later m ρ (dcell c (2 + a) (by omega)))) $$ [Ha] with Hz
  · isplitr; · iexact H1
    iexact Ha
  imod (Rounds.cell_close ER (rd m ρ) (Set.mem_univ (K (c, ⟨4 + a, by omega⟩))) (fun h => h) (R := 0 + 1) (duties_later m ρ (dcell c (5 + a) (by omega)))) $$ [Hb] with Hy
  · isplitr; · iexact H2
    iexact Hb
  imodintro
  isplitl [Hz]; · iexact Hz
  iexact Hy
theorem closeL (a : ℕ) (ha : a < 3) : dnL (F := F) m ρ K c a ha
    ⊢ |={Set.univ}=> iprop(semVal (dcell c (8 + a) (by omega)) 0 ∗ semVal (dcell c (11 + a) (by omega)) 0) := by
  unfold dnL iL
  iintro ⟨⟨#H1, #H2, -, -, -, -⟩, Ha, Hb⟩
  imod (Rounds.cell_close ER (rd m ρ) (Set.mem_univ (K (c, ⟨7 + a, by omega⟩))) (fun h => h) (R := 0 + 1) (duties_later m ρ (dcell c (8 + a) (by omega)))) $$ [Ha] with Hz
  · isplitr; · iexact H1
    iexact Ha
  imod (Rounds.cell_close ER (rd m ρ) (Set.mem_univ (K (c, ⟨10 + a, by omega⟩))) (fun h => h) (R := 0 + 1) (duties_later m ρ (dcell c (11 + a) (by omega)))) $$ [Hb] with Hy
  · isplitr; · iexact H2
    iexact Hb
  imodintro
  isplitl [Hz]; · iexact Hz
  iexact Hy

/-! ## The transfers -/

theorem payR_send (a : ℕ) (ha : a < 3) : dpay (F := F) m ρ c (2 + a) = rPts a (by omega) c fullShare.left (cR m ρ c) := by
  match a, ha with
  | 0, _ => rfl
  | 1, _ => rfl
  | 2, _ => rfl
theorem payR_recv (a : ℕ) (ha : a < 3) : dpay (F := F) m ρ c (5 + a) = rPts (a + 1) (by omega) c fullShare (cR m ρ c) := by
  match a, ha with
  | 0, _ => rfl
  | 1, _ => rfl
  | 2, _ => rfl
theorem payL_send (a : ℕ) (ha : a < 3) : dpay (F := F) m ρ c (8 + a) = lPts a (by omega) c fullShare.left (cL m ρ c) := by
  match a, ha with
  | 0, _ => rfl
  | 1, _ => rfl
  | 2, _ => rfl
theorem payL_recv (a : ℕ) (ha : a < 3) : dpay (F := F) m ρ c (11 + a) = lPts (a + 1) (by omega) c fullShare (cL m ρ c) := by
  match a, ha with
  | 0, _ => rfl
  | 1, _ => rfl
  | 2, _ => rfl

theorem lendR (a : ℕ) (ha : a < 3) (hk : a < 4) (hb : 2 + a < 15) : (rPts a hk c fullShare.left (cR m ρ c) : sProp 𝕄)
    ⊢ (rd m ρ).payload (dcell c (2 + a) hb) 0 false := by
  rw [payload_dma, payR_send m ρ c a ha]
theorem giveR (a : ℕ) (ha : a < 3) (hk : a < 4) (hk' : a + 1 < 4) (he : 5 + a < 15) (fd : Buf (Elt F) ((rM (a + 1) hk').view.loc (nxt c : Thread nD τ))) :
    ((rM (a + 1) hk').view.loc (nxt c : Thread nD τ) ↦[(rM (a + 1) hk').view.set]{fullShare}
        ((rM (a + 1) hk').view.write (Elt F) fd ((rM a hk).view.read (Elt F) (cR m ρ c)) Finset.univ) : sProp 𝕄)
      ⊢ (rd m ρ).payload (dcell (nxt c) (5 + a) he) 0 false := by
  rw [payload_dma, payR_recv m ρ (nxt c) a ha, landR m ρ a hk hk' c fd]
theorem lendL (a : ℕ) (ha : a < 3) (hk : a < 4) (hb : 8 + a < 15) : (lPts a hk c fullShare.left (cL m ρ c) : sProp 𝕄)
    ⊢ (rd m ρ).payload (dcell c (8 + a) hb) 0 false := by
  rw [payload_dma, payL_send m ρ c a ha]
theorem giveL (a : ℕ) (ha : a < 3) (hk : a < 4) (hk' : a + 1 < 4) (he : 11 + a < 15) (fd : Buf (Elt F) ((lM (a + 1) hk').view.loc (prv c : Thread nD τ))) :
    ((lM (a + 1) hk').view.loc (prv c : Thread nD τ) ↦[(lM (a + 1) hk').view.set]{fullShare}
        ((lM (a + 1) hk').view.write (Elt F) fd ((lM a hk).view.read (Elt F) (cL m ρ c)) Finset.univ) : sProp 𝕄)
      ⊢ (rd m ρ).payload (dcell (prv c) (11 + a) he) 0 false := by
  rw [payload_dma, payL_recv m ρ (prv c) a ha, landL m ρ a hk hk' c fd]
theorem owed_succ (j : ℕ) : owed c (j + 1) = owed c j + tallyAt (payCell c j) () (payAmt j) := rfl
theorem amountR (k : ℕ) (hk : k < 4) (q : DmaSem sig) : (rM k hk).view.amount (.dma q) = N := rfl
theorem amountL (k : ℕ) (hk : k < 4) (q : DmaSem sig) : (lM k hk).view.amount (.dma q) = N := rfl

/-- The transfer of hop `a` to the right, addressed to `n`: half of the slot sent is lent, half stays. -/
theorem wp_sendR (a : ℕ) (ha : a < 3) (hk : a < 4) (hk' : a + 1 < 4) (hb : 2 + a < 15) (he : 5 + a < 15)
    (j : ℕ) (hc : payCell c j = dcell (nxt c) (5 + a) he) (hj : payAmt j = N) (n : Dev nD) (hn : n = nxt c)
    {hsc : (rM (a + 1) hk' : Memref sig (Dev.tc n : Thread nD τ).2.kind .vmem S512x1024 .bf16).view.ref.isScScratch = false}
    {hsrc : (rM a hk).view.WordExact} {hdst : (rM (a + 1) hk').view.WordExact}
    {hsem : DmaTarget.Typed .vmem (.dma (⟨5 + a, he⟩ : DmaSem sig)) (.remote (Dev.tc n : Thread nD τ) (rM (a + 1) hk' : Memref sig .tc .vmem S512x1024 .bf16) (.dma (⟨2 + a, hb⟩ : DmaSem sig)) hsc)}
    {α : Type} {Q : α → sProp 𝕄} {k : PUnit → Prog (TpuEff nD τ sig (Elt F) Λ₀ .tc) α} :
    iprop(inR m ρ K c a ha ∗ rPts a hk c fullShare (cR m ρ c) ∗ (∃ f, rPts (a + 1) hk' (nxt c) fullShare f) ∗ ow (F := F) c (j + 1))
      ⊢ iprop(((flR m ρ K c a ha ∗ rPts a hk c fullShare.right (cR m ρ c) ∗ ow c j) -∗ Wp c (k ⟨⟩) Q)
          -∗ Wp c (.op (.enqueueDma (rM a hk) (.remote (Dev.tc n : Thread nD τ) (rM (a + 1) hk') (.dma (⟨2 + a, hb⟩ : DmaSem sig)) hsc)
              (.dma (⟨5 + a, he⟩ : DmaSem sig)) hsrc hdst hsem) k) Q) := by
  subst hn
  unfold inR flR ow iR
  iintro ⟨⟨⟨#HI1, #HI2, #HI3, #HR1, #HR2, #HL⟩, Ht1, Ht2, Hp1, Hp2, Hc⟩, Hs, ⟨%f, Hd⟩, ⟨%W, HO⟩⟩ Hk
  ihave ⟨HsL, HsR⟩ := (pointsTo_share (PosShare.mem_left_op_right fullShare)).1 $$ Hs
  have hd1 : false ∈ (rd m ρ).duties (dcell c (2 + a) hb) 0 := by
    rw [duties_dma m ρ c _ _ (by omega)]; exact Finset.mem_singleton_self _
  have hd2 : false ∈ (rd m ρ).duties (dcell (nxt c) (5 + a) he) 0 := by
    rw [duties_dma m ρ (nxt c) _ _ (by omega)]; exact Finset.mem_singleton_self _
  have hO : owed c (j + 1) = owed c j + tallyAt (dcell (nxt c) (5 + a) he) () N := (owed_succ c j).trans (by rw [hc, hj])
  have hP1 := lendR m ρ c a ha hk hb
  have hP2 := giveR m ρ c a ha hk hk' he f
  iapply (Rounds.wp_send_pointsTo 𝒱₀ ER (rd m ρ) (c : Thread nD τ) none
    (r₁ := 0) (r₂ := 0) (d₁ := false) (d₂ := false) hd1 hd2
    () () N (amountR (a + 1) hk' _) (amount_dma m ρ c _ hb false) (amount_dma m ρ (nxt c) _ he false) (owed c j) hO (W := W)
    hP1 hP2) $$ [HsL Hd HO Ht1 Ht2]
  · isplitr; · iexact HI1
    isplitr; · iexact HI3
    isplitl [HsL]; · iexact HsL
    isplitl [Hd]; · iexact Hd
    isplitl [HO]; · iexact HO
    isplitl [Ht1]; · iexact Ht1
    isplitr; · iexact HR1
    isplitl [Ht2]; · iexact Ht2
    iexact HR2
  iintro ⟨Hc', HO⟩
  iapply Hk
  isplitr [HsR HO]
  · isplitr
    · isplitr; · iexact HI1
      isplitr; · iexact HI2
      isplitr; · iexact HI3
      isplitr; · iexact HR1
      isplitr; · iexact HR2
      iexact HL
    isplitl [Hp1]; · iexact Hp1
    isplitl [Hp2]; · iexact Hp2
    isplitl [Hc']; · iexact Hc'
    iexact Hc
  isplitl [HsR]; · iexact HsR
  iexists W; iexact HO

/-- The transfer of hop `a` to the left, addressed to `n`: half of the slot sent is lent, half stays. -/
theorem wp_sendL (a : ℕ) (ha : a < 3) (hk : a < 4) (hk' : a + 1 < 4) (hb : 8 + a < 15) (he : 11 + a < 15)
    (j : ℕ) (hc : payCell c j = dcell (prv c) (11 + a) he) (hj : payAmt j = N) (n : Dev nD) (hn : n = prv c)
    {hsc : (lM (a + 1) hk' : Memref sig (Dev.tc n : Thread nD τ).2.kind .vmem S512x1024 .bf16).view.ref.isScScratch = false}
    {hsrc : (lM a hk).view.WordExact} {hdst : (lM (a + 1) hk').view.WordExact}
    {hsem : DmaTarget.Typed .vmem (.dma (⟨11 + a, he⟩ : DmaSem sig)) (.remote (Dev.tc n : Thread nD τ) (lM (a + 1) hk' : Memref sig .tc .vmem S512x1024 .bf16) (.dma (⟨8 + a, hb⟩ : DmaSem sig)) hsc)}
    {α : Type} {Q : α → sProp 𝕄} {k : PUnit → Prog (TpuEff nD τ sig (Elt F) Λ₀ .tc) α} :
    iprop(inL m ρ K c a ha ∗ lPts a hk c fullShare (cL m ρ c) ∗ (∃ f, lPts (a + 1) hk' (prv c) fullShare f) ∗ ow (F := F) c (j + 1))
      ⊢ iprop(((flL m ρ K c a ha ∗ lPts a hk c fullShare.right (cL m ρ c) ∗ ow c j) -∗ Wp c (k ⟨⟩) Q)
          -∗ Wp c (.op (.enqueueDma (lM a hk) (.remote (Dev.tc n : Thread nD τ) (lM (a + 1) hk') (.dma (⟨8 + a, hb⟩ : DmaSem sig)) hsc)
              (.dma (⟨11 + a, he⟩ : DmaSem sig)) hsrc hdst hsem) k) Q) := by
  subst hn
  unfold inL flL ow iL
  iintro ⟨⟨⟨#HI1, #HI2, #HI3, #HR1, #HR2, #HL⟩, Ht1, Ht2, Hp1, Hp2, Hc⟩, Hs, ⟨%f, Hd⟩, ⟨%W, HO⟩⟩ Hk
  ihave ⟨HsL, HsR⟩ := (pointsTo_share (PosShare.mem_left_op_right fullShare)).1 $$ Hs
  have hd1 : false ∈ (rd m ρ).duties (dcell c (8 + a) hb) 0 := by
    rw [duties_dma m ρ c _ _ (by omega)]; exact Finset.mem_singleton_self _
  have hd2 : false ∈ (rd m ρ).duties (dcell (prv c) (11 + a) he) 0 := by
    rw [duties_dma m ρ (prv c) _ _ (by omega)]; exact Finset.mem_singleton_self _
  have hO : owed c (j + 1) = owed c j + tallyAt (dcell (prv c) (11 + a) he) () N := (owed_succ c j).trans (by rw [hc, hj])
  have hP1 := lendL m ρ c a ha hk hb
  have hP2 := giveL m ρ c a ha hk hk' he f
  iapply (Rounds.wp_send_pointsTo 𝒱₀ ER (rd m ρ) (c : Thread nD τ) none
    (r₁ := 0) (r₂ := 0) (d₁ := false) (d₂ := false) hd1 hd2
    () () N (amountL (a + 1) hk' _) (amount_dma m ρ c _ hb false) (amount_dma m ρ (prv c) _ he false) (owed c j) hO (W := W)
    hP1 hP2) $$ [HsL Hd HO Ht1 Ht2]
  · isplitr; · iexact HI1
    isplitr; · iexact HI3
    isplitl [HsL]; · iexact HsL
    isplitl [Hd]; · iexact Hd
    isplitl [HO]; · iexact HO
    isplitl [Ht1]; · iexact Ht1
    isplitr; · iexact HR1
    isplitl [Ht2]; · iexact Ht2
    iexact HR2
  iintro ⟨Hc', HO⟩
  iapply Hk
  isplitr [HsR HO]
  · isplitr
    · isplitr; · iexact HI1
      isplitr; · iexact HI2
      isplitr; · iexact HI3
      isplitr; · iexact HR1
      isplitr; · iexact HR2
      iexact HL
    isplitl [Hp1]; · iexact Hp1
    isplitl [Hp2]; · iexact Hp2
    isplitl [Hc']; · iexact Hc'
    iexact Hc
  isplitl [HsR]; · iexact HsR
  iexists W; iexact HO

/-! ## The waits -/

/-- A wait on one of the device's DMA cells of the ring, for the whole of its round. -/
theorem wp_waitC (κ : ℕ) (q : ℕ) (hq : q < 15) (h2 : 2 ≤ q ∧ q ≤ 13) (j : ℕ)
    (hw : (levAts L lv : sProp 𝕄) ⊢ MayWait (c : Thread nD τ) (.dma (⟨q, hq⟩ : DmaSem sig)) () (owed c j))
    {sp sp' : Space} {s s' : Shape} {e e' : EltTy} {src : Memref sig .tc sp' s' e'} {dst : Memref sig .tc sp s e} {hsrc : src.view.WordExact} {hdst : dst.view.WordExact}
    (hN : dst.view.dmaCredit = N)
    {α : Type} {Q : α → sProp 𝕄} {k : PUnit → Prog (TpuEff nD τ sig (Elt F) Λ₀ .tc) α} :
    iprop(cellInv ER (rd m ρ) κ (dcell c q hq) ∗ levAts L lv ∗ cred (tallyAt (dcell c q hq) () N) ∗ atPos ER (dcell c q hq) 0 ∅ 0 ∗ ow (F := F) c j)
      ⊢ iprop(((atPos ER (dcell c q hq) 1 ∅ 0 ∗ dpay m ρ c q ∗ ow c j) -∗ Wp c (k ⟨⟩) Q)
          -∗ Wp c (.op (.waitDma2 (⟨q, hq⟩ : DmaSem sig) src dst hsrc hdst) k) Q) := by
  unfold ow
  iintro ⟨#HI, #HL, Hc, Hp, ⟨%W, HO⟩⟩ Hk
  iapply (Rounds.wp_wait_rest_token 𝒱₀ ER (rd m ρ) (c : Thread nD τ) none (κ := κ)
      (wpE_waitDma2_eq 𝒱₀ (c : Thread nD τ) none Set.univ) (Set.mem_univ _) () (O := owed c j) (W := W) (R := 0) (m := 0) (T := ∅)
      (by rw [Nat.zero_add, expect_dma m ρ c q hq h2, hN])) $$ [Hc HO Hp]
  · isplitr; · iexact HI
    isplitl [Hc]; · rw [hN]; iexact Hc
    isplitl [HO]; · iexact HO
    isplitr; · iapply hw; iexact HL
    iexact Hp
  iintro ⟨HO, Hp, -, Hpay⟩
  ihave Hpay := (Entails.of_eq (rest_dma m ρ c q hq h2)) $$ Hpay
  iapply Hk
  isplitl [Hp]; · iexact Hp
  isplitl [Hpay]; · iexact Hpay
  iexists _; iexact HO

end Cert.KernelIdeal.Ring

end
-- ==== Proof.Ideal.Access.lean ====
/-
  What the body reads and writes in its buffers, at a variable head, slot or weight.
-/
module

public import proofs.«01_k».proof.Proof.Ideal.Cuts
public import Idealize.ShloMosaic.Lib.Pipeline.Value

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-- A part of the body at the buffers and semaphores of the call. -/
abbrev onBufs {γ : Sort*} (p : (a0 : Memref sig .tc .vmem S2x512x1024 .f32) → a0.IsWhole → (a1 : Memref sig .tc .hbm S1024x1024 .f32) → a1.IsWhole
    → (a2 : Memref sig .tc .hbm S1024x1024 .f32) → a2.IsWhole → (a3 : Memref sig .tc .hbm S1024x1024 .f32) → a3.IsWhole
    → (a4 : Memref sig .tc .hbm S1024x1024 .f32) → a4.IsWhole → (a5 : Memref sig .tc .vmem S2x512x1024 .bf16) → a5.IsWhole
    → (a6 : Memref sig .tc .vmem S4x512x1024 .bf16) → a6.IsWhole → (a7 : Memref sig .tc .vmem S4x512x1024 .bf16) → a7.IsWhole
    → (a8 : Memref sig .tc .vmem S1024x1024 .bf16) → a8.IsWhole → (a9 : Memref sig .tc .vmem S1024x1024 .f32) → a9.IsWhole
    → DmaSems sig S3 → DmaSems sig S3 → DmaSems sig S3 → DmaSems sig S3 → DmaSems sig S_ → γ) : γ :=
  p (Memref.whole cc0_stg0_0) (Memref.isWhole_whole _) (Memref.whole main_arg1) (Memref.isWhole_whole _) (Memref.whole main_arg2) (Memref.isWhole_whole _)
    (Memref.whole main_arg3) (Memref.isWhole_whole _) (Memref.whole main_arg4) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8

/-! ## The buffer of the queries -/

/-- The buffer of the queries. -/
abbrev qPts (f : (cc0_scratch2 : Ref sig .tc).ty.Contents (Elt F)) : sProp 𝕄 := (c : Thread nD τ).loc cc0_scratch2 ↦{fullShare} f

/-- One head's columns of one batch. -/
abbrev qR (o0 o1 : ℕ) (inb : ∀ a, (![o0, o1] : Fin 2 → ℕ) a + S512x128.size a ≤ S1024x1024.size a) : Rect S1024x1024 :=
  Rect.unit (s := S1024x1024) ![o0, o1] S512x128.size inb

theorem read_q (b : Fin 2) (h : Fin 8) (o0 o1 : ℕ) (h0 : o0 = 512 * b.val) (h1 : o1 = 128 * h.val)
    (inb : ∀ a, (![o0, o1] : Fin 2 → ℕ) a + S512x128.size a ≤ S1024x1024.size a) :
    (Memref.whole cc0_scratch2 : Memref sig .tc .vmem S1024x1024 .bf16).view.readAt (Elt F) (qR o0 o1 inb).toLoadRect (qbuf m ρ c)
      = colsH h (qq m ρ c b) := by
  subst h0 h1
  funext x
  have hx0 : ((x 0 : Fin 512) : ℕ) < 512 := (x 0).isLt
  have hx1 : ((x 1 : Fin 128) : ℕ) < 128 := (x 1).isLt
  have hh := h.isLt
  have hb := b.isLt
  show qbuf m ρ c _ = qq m ρ c b _
  unfold qbuf
  refine congr (congrArg (qq m ρ c) (Fin.ext ?_)) (funext fun a => ?_)
  · show (512 * b.val + 1 * ((x 0 : Fin 512) : ℕ)) / 512 = b.val
    omega
  · match a with
    | ⟨0, _⟩ => exact Fin.ext (by show (512 * b.val + 1 * ((x 0 : Fin 512) : ℕ)) % 512 = 0 + ((x 0 : Fin 512) : ℕ); omega)
    | ⟨1, _⟩ => exact Fin.ext (by show 128 * h.val + 1 * ((x 1 : Fin 128) : ℕ) = 128 * h.val + ((x 1 : Fin 128) : ℕ); omega)

/-- A program that reads the queries, at most, and returns `v`. -/
def Reads {α : Type} (p : Prog (TpuEff nD τ sig (Elt F) Λ₀ .tc) α) (v : α) : Prop :=
  qPts c (qbuf m ρ c) ⊢ Wp c p (fun r => iprop(⌜r = v⌝ ∗ qPts c (qbuf m ρ c)))

variable {m ρ c}

theorem reads_ret {α : Type} {r v : α} (h : r = v) : Reads m ρ c (.ret r) v := by
  unfold Reads Wp
  rw [wp_ret]
  iintro H
  imodintro
  isplitr; · ipureintro; exact h
  iexact H

theorem reads_load {α : Type} {v : α} (b : Fin 2) (h : Fin 8) {o0 o1 : ℕ}
    {inb : ∀ a, (![o0, o1] : Fin 2 → ℕ) a + S512x128.size a ≤ S1024x1024.size a}
    {hl : (Memref.whole cc0_scratch2 : Memref sig .tc .vmem S1024x1024 .bf16).view.LoadsAt (qR o0 o1 inb).toLoadRect}
    {k : (S512x128.Idx → Elt F .bf16) → Prog (TpuEff nD τ sig (Elt F) Λ₀ .tc) α}
    (h0 : o0 = 512 * b.val) (h1 : o1 = 128 * h.val)
    (hk : Reads m ρ c (k (colsH h (qq m ρ c b))) v) :
    Reads m ρ c (.op (.load (Memref.whole cc0_scratch2 : Memref sig .tc .vmem S1024x1024 .bf16) (qR o0 o1 inb).toLoadRect hl) k) v := by
  have e := read_q m ρ c b h o0 o1 h0 h1 inb
  unfold Reads Wp at hk ⊢
  rw [← e] at hk
  iintro H
  iapply (wp_load 𝒱₀ (c : Thread nD τ) none Set.univ (m := (Memref.whole cc0_scratch2 : Memref sig .tc .vmem S1024x1024 .bf16))
    (r := (qR o0 o1 inb).toLoadRect) (Finset.subset_univ _)) $$ H
  iintro H
  iapply hk
  iexact H

/-! ## Writing the buffer of the queries -/

section Fill

variable (m : (ℓ : Loc nD τ sig) → Buf (Elt F) ℓ) (ρ : Dev nD → PrngReg) (c : Dev nD)

/-- What a store of `g`'s values in a rectangle leaves. -/
theorem store_fill (r : Rect S1024x1024) (f g : (cc0_scratch2 : Ref sig .tc).ty.Contents (Elt F)) (w : r.shape.Idx → Elt F .bf16)
    (hw : ∀ x, w x = g (r.emb x)) (i : S1024x1024.Idx) :
    ((Memref.whole cc0_scratch2 : Memref sig .tc .vmem S1024x1024 .bf16).access r).write (Elt F) f w Finset.univ i
      = if i ∈ r.set then g i else f i := by
  by_cases hi : i ∈ r.set
  · rw [if_pos hi]
    rw [← Rect.map_emb_univ] at hi
    obtain ⟨x, _, rfl⟩ := Finset.mem_map.mp hi
    exact (View.write_emb_of_mem (v := (Memref.whole cc0_scratch2 : Memref sig .tc .vmem S1024x1024 .bf16).access r) f w (Finset.mem_univ x)).trans (hw x)
  · rw [if_neg hi]
    refine View.write_of_not_mem (v := (Memref.whole cc0_scratch2 : Memref sig .tc .vmem S1024x1024 .bf16).access r) f w Finset.univ fun h => hi ?_
    have e : ((Memref.whole cc0_scratch2 : Memref sig .tc .vmem S1024x1024 .bf16).access r).setOn Finset.univ = r.set := View.set_slice_whole cc0_scratch2 r
    rwa [e] at h

/-- The buffer once the first `n` blocks of the attention are stored over `f`. -/
def mixC (f : (cc0_scratch2 : Ref sig .tc).ty.Contents (Elt F)) (n : ℕ) : (cc0_scratch2 : Ref sig .tc).ty.Contents (Elt F) :=
  fun i => if 8 * ((i (0 : Fin 2) : Fin 1024).val / 512) + (i (1 : Fin 2) : Fin 1024).val / 128 < n then cbuf m ρ c i else f i

theorem mixC_zero (f : (cc0_scratch2 : Ref sig .tc).ty.Contents (Elt F)) : mixC m ρ c f 0 = f :=
  funext fun i => if_neg (Nat.not_lt_zero _)
theorem mixC_all (f : (cc0_scratch2 : Ref sig .tc).ty.Contents (Elt F)) : mixC m ρ c f 16 = cbuf m ρ c := by
  funext i
  have h0 : (i (0 : Fin 2) : Fin 1024).val < 1024 := (i (0 : Fin 2) : Fin 1024).isLt
  have h1 : (i (1 : Fin 2) : Fin 1024).val < 1024 := (i (1 : Fin 2) : Fin 1024).isLt
  exact if_pos (by omega)

theorem mem_qR (b : Fin 2) (h : Fin 8) (inb) (i : S1024x1024.Idx) :
    i ∈ (qR (512 * b.val) (128 * h.val) inb).set ↔ (i (0 : Fin 2) : Fin 1024).val / 512 = b.val ∧ (i (1 : Fin 2) : Fin 1024).val / 128 = h.val := by
  rw [Rect.mem_set_unit]
  constructor
  · intro H
    have a := H (0 : Fin 2)
    have a' := H (1 : Fin 2)
    change 512 * b.val ≤ (i (0 : Fin 2) : Fin 1024).val ∧ (i (0 : Fin 2) : Fin 1024).val < 512 * b.val + 512 at a
    change 128 * h.val ≤ (i (1 : Fin 2) : Fin 1024).val ∧ (i (1 : Fin 2) : Fin 1024).val < 128 * h.val + 128 at a'
    omega
  · rintro ⟨e, e'⟩ a
    match a with
    | ⟨0, _⟩ => show 512 * b.val ≤ (i (0 : Fin 2) : Fin 1024).val ∧ (i (0 : Fin 2) : Fin 1024).val < 512 * b.val + 512; omega
    | ⟨1, _⟩ => show 128 * h.val ≤ (i (1 : Fin 2) : Fin 1024).val ∧ (i (1 : Fin 2) : Fin 1024).val < 128 * h.val + 128; omega

theorem ctx_emb (b : Fin 2) (h : Fin 8) (inb) (x : S512x128.Idx) :
    ctx m ρ c b h x = cbuf m ρ c ((qR (512 * b.val) (128 * h.val) inb).emb x) := by
  have hx0 : ((x 0 : Fin 512) : ℕ) < 512 := (x 0).isLt
  have hx1 : ((x 1 : Fin 128) : ℕ) < 128 := (x 1).isLt
  have hh := h.isLt
  have hb := b.isLt
  unfold cbuf
  refine congr (congr (congrArg (ctx m ρ c) (Fin.ext ?_)) (Fin.ext ?_)) (funext fun a => ?_)
  · show b.val = (512 * b.val + 1 * ((x 0 : Fin 512) : ℕ)) / 512
    omega
  · show h.val = (128 * h.val + 1 * ((x 1 : Fin 128) : ℕ)) / 128
    omega
  · match a with
    | ⟨0, _⟩ => exact Fin.ext (by show ((x 0 : Fin 512) : ℕ) = (512 * b.val + 1 * ((x 0 : Fin 512) : ℕ)) % 512; omega)
    | ⟨1, _⟩ => exact Fin.ext (by show ((x 1 : Fin 128) : ℕ) = (128 * h.val + 1 * ((x 1 : Fin 128) : ℕ)) % 128; omega)

/-- One block more. -/
theorem mixC_succ (b : Fin 2) (h : Fin 8) (n : ℕ) (hn : n = 8 * b.val + h.val) (inb) (f : (cc0_scratch2 : Ref sig .tc).ty.Contents (Elt F)) :
    ((Memref.whole cc0_scratch2 : Memref sig .tc .vmem S1024x1024 .bf16).access (qR (512 * b.val) (128 * h.val) inb)).write (Elt F) (mixC m ρ c f n)
      (ctx m ρ c b h) Finset.univ = mixC m ρ c f (n + 1) := by
  funext i
  rw [store_fill _ _ (cbuf m ρ c) _ (ctx_emb m ρ c b h inb)]
  unfold mixC
  have hh := h.isLt
  by_cases hi : i ∈ (qR (512 * b.val) (128 * h.val) inb).set
  · rw [if_pos hi, if_pos]
    have := (mem_qR b h inb i).mp hi
    omega
  · rw [if_neg hi]
    have hne : ¬ ((i (0 : Fin 2) : Fin 1024).val / 512 = b.val ∧ (i (1 : Fin 2) : Fin 1024).val / 128 = h.val) := fun e => hi ((mem_qR b h inb i).mpr e)
    have h1 : (i (1 : Fin 2) : Fin 1024).val < 1024 := (i (1 : Fin 2) : Fin 1024).isLt
    by_cases hl : 8 * ((i (0 : Fin 2) : Fin 1024).val / 512) + (i (1 : Fin 2) : Fin 1024).val / 128 < n
    · rw [if_pos hl, if_pos (Nat.lt_succ_of_lt hl)]
    · rw [if_neg hl, if_neg (by omega)]

/-- A program that stores blocks `n` to `n' - 1` of the attention and returns `v`. -/
def Writes {α : Type} (n n' : ℕ) (p : Prog (TpuEff nD τ sig (Elt F) Λ₀ .tc) α) (v : α) : Prop :=
  ∀ f, qPts c (mixC m ρ c f n) ⊢ Wp c p (fun r => iprop(⌜r = v⌝ ∗ qPts c (mixC m ρ c f n')))

end Fill

theorem writes_ret {α : Type} {r v : α} {n : ℕ} (h : r = v) : Writes m ρ c n n (.ret r) v := by
  intro f
  unfold Wp
  rw [wp_ret]
  iintro H
  imodintro
  isplitr; · ipureintro; exact h
  iexact H

theorem writes_load {α : Type} {v : α} {n n' : ℕ} {r : LoadRect S1024x1024}
    {hl : (Memref.whole cc0_scratch2 : Memref sig .tc .vmem S1024x1024 .bf16).view.LoadsAt r}
    {k : (r.shape.Idx → Elt F .bf16) → Prog (TpuEff nD τ sig (Elt F) Λ₀ .tc) α}
    (hk : ∀ x, Writes m ρ c n n' (k x) v) :
    Writes m ρ c n n' (.op (.load (Memref.whole cc0_scratch2 : Memref sig .tc .vmem S1024x1024 .bf16) r hl) k) v := by
  intro f
  unfold Writes Wp at hk
  unfold Wp
  iintro H
  iapply (wp_load 𝒱₀ (c : Thread nD τ) none Set.univ (m := (Memref.whole cc0_scratch2 : Memref sig .tc .vmem S1024x1024 .bf16))
    (r := r) (Finset.subset_univ _)) $$ H
  iintro H
  iapply hk
  iexact H

theorem writes_store {α : Type} {v : α} (b : Fin 2) (h : Fin 8) {n n' o0 o1 : ℕ}
    {inb : ∀ a, (![o0, o1] : Fin 2 → ℕ) a + S512x128.size a ≤ S1024x1024.size a} {w : S512x128.Idx → Elt F .bf16}
    {hx : ((Memref.whole cc0_scratch2 : Memref sig .tc .vmem S1024x1024 .bf16).access (qR o0 o1 inb)).Stores Finset.univ} {hm}
    {k : PUnit → Prog (TpuEff nD τ sig (Elt F) Λ₀ .tc) α}
    (h0 : o0 = 512 * b.val) (h1 : o1 = 128 * h.val) (hn : n = 8 * b.val + h.val)
    (hw : w = shapeCast S512x128 (ctx m ρ c b h) shapeCasts_S512x128_S512x128)
    (hk : Writes m ρ c (n + 1) n' (k ⟨⟩) v) :
    Writes m ρ c n n' (.op (.store (Memref.whole cc0_scratch2 : Memref sig .tc .vmem S1024x1024 .bf16) (qR o0 o1 inb) w Finset.univ hx hm) k) v := by
  intro f
  rw [shapeCast_self] at hw
  subst h0 h1 hw
  have e := mixC_succ m ρ c b h n hn inb f
  have hk := hk f
  rw [← e] at hk
  unfold Wp at hk ⊢
  iintro H
  iapply (wp_store 𝒱₀ (c : Thread nD τ) none Set.univ (m := (Memref.whole cc0_scratch2 : Memref sig .tc .vmem S1024x1024 .bf16))
    (r := qR (512 * b.val) (128 * h.val) inb) (Mk := Finset.univ) (Finset.subset_univ _)) $$ H
  iintro H
  iapply hk
  iexact H

/-! ## The slots -/

section Slots

variable (m : (ℓ : Loc nD τ sig) → Buf (Elt F) ℓ) (ρ : Dev nD → PrngReg) (c : Dev nD)

theorem slot_setR (k : ℕ) (hk : k < 4) : (rM k hk).view.set = (slotR k hk).set := by
  show (((View.whole cc0_scratch0).slice (slotR k hk)).reshape S512x1024 _).set = _
  rw [View.set_reshape]; exact View.set_slice_whole cc0_scratch0 (slotR k hk)
theorem slot_setL (k : ℕ) (hk : k < 4) : (lM k hk).view.set = (slotR k hk).set := by
  show (((View.whole cc0_scratch1).slice (slotR k hk)).reshape S512x1024 _).set = _
  rw [View.set_reshape]; exact View.set_slice_whole cc0_scratch1 (slotR k hk)

theorem slot_subR (k : ℕ) (hk : k < 4) :
    (Memref.whole cc0_scratch0 : Memref sig .tc .vmem S4x512x1024 .bf16).view.setOn (slotR k hk).toLoadRect.set ⊆ (rM k hk).view.set := by
  rw [slot_setR]
  intro i hi
  obtain ⟨x, hx, rfl⟩ := Finset.mem_map.mp hi
  exact hx
theorem slot_subL (k : ℕ) (hk : k < 4) :
    (Memref.whole cc0_scratch1 : Memref sig .tc .vmem S4x512x1024 .bf16).view.setOn (slotR k hk).toLoadRect.set ⊆ (lM k hk).view.set := by
  rw [slot_setL]
  intro i hi
  obtain ⟨x, hx, rfl⟩ := Finset.mem_map.mp hi
  exact hx

theorem read_slotR (k : ℕ) (hk : k < 4) :
    (Memref.whole cc0_scratch0 : Memref sig .tc .vmem S4x512x1024 .bf16).view.readAt (Elt F) (slotR k hk).toLoadRect (cR m ρ c)
      = k0_pay4 (xstg m ρ (prv^[k] c)) := by
  funext x
  have h0 : ((x 0 : Fin 1) : ℕ) = 0 := Fin.val_eq_zero _
  show cR m ρ c _ = _
  unfold cR
  have hd : k + 1 * ((x 0 : Fin 1) : ℕ) = k := by omega
  refine congr (congrArg (fun d => k0_pay4 (xstg m ρ d)) (congrArg (fun n => prv^[n] c) hd)) (funext fun a => ?_)
  match a with
  | ⟨0, _⟩ => exact Fin.ext h0.symm
  | ⟨1, _⟩ => exact Fin.ext (by show 0 + 1 * ((x 1 : Fin 512) : ℕ) = ((x 1 : Fin 512) : ℕ); omega)
  | ⟨2, _⟩ => exact Fin.ext (by show 0 + 1 * ((x 2 : Fin 1024) : ℕ) = ((x 2 : Fin 1024) : ℕ); omega)
theorem read_slotL (k : ℕ) (hk : k < 4) :
    (Memref.whole cc0_scratch1 : Memref sig .tc .vmem S4x512x1024 .bf16).view.readAt (Elt F) (slotR k hk).toLoadRect (cL m ρ c)
      = k0_pay5 (xstg m ρ (nxt^[k] c)) := by
  funext x
  have h0 : ((x 0 : Fin 1) : ℕ) = 0 := Fin.val_eq_zero _
  show cL m ρ c _ = _
  unfold cL
  have hd : k + 1 * ((x 0 : Fin 1) : ℕ) = k := by omega
  refine congr (congrArg (fun d => k0_pay5 (xstg m ρ d)) (congrArg (fun n => nxt^[n] c) hd)) (funext fun a => ?_)
  match a with
  | ⟨0, _⟩ => exact Fin.ext h0.symm
  | ⟨1, _⟩ => exact Fin.ext (by show 0 + 1 * ((x 1 : Fin 512) : ℕ) = ((x 1 : Fin 512) : ℕ); omega)
  | ⟨2, _⟩ => exact Fin.ext (by show 0 + 1 * ((x 2 : Fin 1024) : ℕ) = ((x 2 : Fin 1024) : ℕ); omega)

/-- A load of a slot at the contents it is to hold. -/
theorem wp_loadR (k : ℕ) (hk : k < 4) (q : PosShare TreeShare) {α : Type} {Q : α → sProp 𝕄}
    {hl : (Memref.whole cc0_scratch0 : Memref sig .tc .vmem S4x512x1024 .bf16).view.LoadsAt (slotR k hk).toLoadRect}
    {K : (S1x512x1024.Idx → Elt F .bf16) → Prog (TpuEff nD τ sig (Elt F) Λ₀ .tc) α} :
    rPts k hk c q (cR m ρ c) ⊢ iprop((rPts k hk c q (cR m ρ c) -∗ Wp c (K (k0_pay4 (xstg m ρ (prv^[k] c)))) Q)
      -∗ Wp c (.op (.load (Memref.whole cc0_scratch0 : Memref sig .tc .vmem S4x512x1024 .bf16) (slotR k hk).toLoadRect hl) K) Q) := by
  rw [← read_slotR m ρ c k hk]
  exact wp_load 𝒱₀ (c : Thread nD τ) none Set.univ (m := (Memref.whole cc0_scratch0 : Memref sig .tc .vmem S4x512x1024 .bf16))
    (r := (slotR k hk).toLoadRect) (slot_subR k hk)
theorem wp_loadL (k : ℕ) (hk : k < 4) (q : PosShare TreeShare) {α : Type} {Q : α → sProp 𝕄}
    {hl : (Memref.whole cc0_scratch1 : Memref sig .tc .vmem S4x512x1024 .bf16).view.LoadsAt (slotR k hk).toLoadRect}
    {K : (S1x512x1024.Idx → Elt F .bf16) → Prog (TpuEff nD τ sig (Elt F) Λ₀ .tc) α} :
    lPts k hk c q (cL m ρ c) ⊢ iprop((lPts k hk c q (cL m ρ c) -∗ Wp c (K (k0_pay5 (xstg m ρ (nxt^[k] c)))) Q)
      -∗ Wp c (.op (.load (Memref.whole cc0_scratch1 : Memref sig .tc .vmem S4x512x1024 .bf16) (slotR k hk).toLoadRect hl) K) Q) := by
  rw [← read_slotL m ρ c k hk]
  exact wp_load 𝒱₀ (c : Thread nD τ) none Set.univ (m := (Memref.whole cc0_scratch1 : Memref sig .tc .vmem S4x512x1024 .bf16))
    (r := (slotR k hk).toLoadRect) (slot_subL k hk)

/-- Slot 0 stored: it holds what it is to hold. -/
theorem stored0R (hk : 0 < 4) (f : (cc0_scratch0 : Ref sig .tc).ty.Contents (Elt F)) :
    (rPts 0 hk c fullShare (((Memref.whole cc0_scratch0 : Memref sig .tc .vmem S4x512x1024 .bf16).access (slotR 0 hk)).write (Elt F) f (k0_pay4 (xstg m ρ c)) Finset.univ) : sProp 𝕄)
      = rPts 0 hk c fullShare (cR m ρ c) := by
  refine pointsTo_congr fun i hi => ?_
  rw [slot_setR, ← Rect.map_emb_univ] at hi
  obtain ⟨x, _, rfl⟩ := Finset.mem_map.mp hi
  exact (View.write_emb_of_mem (v := (Memref.whole cc0_scratch0 : Memref sig .tc .vmem S4x512x1024 .bf16).access (slotR 0 hk)) f _ (Finset.mem_univ x)).trans
    (congrFun (read_slotR m ρ c 0 hk) x).symm
theorem stored0L (hk : 0 < 4) (f : (cc0_scratch1 : Ref sig .tc).ty.Contents (Elt F)) :
    (lPts 0 hk c fullShare (((Memref.whole cc0_scratch1 : Memref sig .tc .vmem S4x512x1024 .bf16).access (slotR 0 hk)).write (Elt F) f (k0_pay5 (xstg m ρ c)) Finset.univ) : sProp 𝕄)
      = lPts 0 hk c fullShare (cL m ρ c) := by
  refine pointsTo_congr fun i hi => ?_
  rw [slot_setL, ← Rect.map_emb_univ] at hi
  obtain ⟨x, _, rfl⟩ := Finset.mem_map.mp hi
  exact (View.write_emb_of_mem (v := (Memref.whole cc0_scratch1 : Memref sig .tc .vmem S4x512x1024 .bf16).access (slotR 0 hk)) f _ (Finset.mem_univ x)).trans
    (congrFun (read_slotL m ρ c 0 hk) x).symm

/-- Slot 0's first store, with the load before it. -/
theorem wp_put0R (hk : 0 < 4) {α : Type} {Q : α → sProp 𝕄}
    {hl : (Memref.whole cc0_scratch0 : Memref sig .tc .vmem S4x512x1024 .bf16).view.LoadsAt (slotR 0 hk).toLoadRect} {hx hm}
    {K : PUnit → Prog (TpuEff nD τ sig (Elt F) Λ₀ .tc) α} :
    iprop(∃ f, rPts 0 hk c fullShare f) ⊢ iprop((rPts 0 hk c fullShare (cR m ρ c) -∗ Wp c (K ⟨⟩) Q)
      -∗ Wp c (.op (.load (Memref.whole cc0_scratch0 : Memref sig .tc .vmem S4x512x1024 .bf16) (slotR 0 hk).toLoadRect hl) fun _ =>
        .op (.store (Memref.whole cc0_scratch0 : Memref sig .tc .vmem S4x512x1024 .bf16) (slotR 0 hk) (k0_pay4 (xstg m ρ c)) Finset.univ hx hm) K) Q) := by
  iintro ⟨%f, H⟩ Hk
  iapply (wp_load 𝒱₀ (c : Thread nD τ) none Set.univ (m := (Memref.whole cc0_scratch0 : Memref sig .tc .vmem S4x512x1024 .bf16))
    (r := (slotR 0 hk).toLoadRect) (slot_subR 0 hk)) $$ H
  iintro H
  have hs : ((Memref.whole cc0_scratch0 : Memref sig .tc .vmem S4x512x1024 .bf16).access (slotR 0 hk)).setOn Finset.univ ⊆ (rM 0 hk).view.set :=
    ((slot_setR 0 hk).trans (View.set_slice_whole cc0_scratch0 (slotR 0 hk)).symm).ge
  iapply (wp_store 𝒱₀ (c : Thread nD τ) none Set.univ (m := (Memref.whole cc0_scratch0 : Memref sig .tc .vmem S4x512x1024 .bf16))
    (r := slotR 0 hk) (Mk := Finset.univ) hs) $$ H
  iintro H
  iapply Hk
  iapply (Entails.of_eq (stored0R m ρ c hk f)) $$ H
theorem wp_put0L (hk : 0 < 4) {α : Type} {Q : α → sProp 𝕄}
    {hl : (Memref.whole cc0_scratch1 : Memref sig .tc .vmem S4x512x1024 .bf16).view.LoadsAt (slotR 0 hk).toLoadRect} {hx hm}
    {K : PUnit → Prog (TpuEff nD τ sig (Elt F) Λ₀ .tc) α} :
    iprop(∃ f, lPts 0 hk c fullShare f) ⊢ iprop((lPts 0 hk c fullShare (cL m ρ c) -∗ Wp c (K ⟨⟩) Q)
      -∗ Wp c (.op (.load (Memref.whole cc0_scratch1 : Memref sig .tc .vmem S4x512x1024 .bf16) (slotR 0 hk).toLoadRect hl) fun _ =>
        .op (.store (Memref.whole cc0_scratch1 : Memref sig .tc .vmem S4x512x1024 .bf16) (slotR 0 hk) (k0_pay5 (xstg m ρ c)) Finset.univ hx hm) K) Q) := by
  iintro ⟨%f, H⟩ Hk
  iapply (wp_load 𝒱₀ (c : Thread nD τ) none Set.univ (m := (Memref.whole cc0_scratch1 : Memref sig .tc .vmem S4x512x1024 .bf16))
    (r := (slotR 0 hk).toLoadRect) (slot_subL 0 hk)) $$ H
  iintro H
  have hs : ((Memref.whole cc0_scratch1 : Memref sig .tc .vmem S4x512x1024 .bf16).access (slotR 0 hk)).setOn Finset.univ ⊆ (lM 0 hk).view.set :=
    ((slot_setL 0 hk).trans (View.set_slice_whole cc0_scratch1 (slotR 0 hk)).symm).ge
  iapply (wp_store 𝒱₀ (c : Thread nD τ) none Set.univ (m := (Memref.whole cc0_scratch1 : Memref sig .tc .vmem S4x512x1024 .bf16))
    (r := slotR 0 hk) (Mk := Finset.univ) hs) $$ H
  iintro H
  iapply Hk
  iapply (Entails.of_eq (stored0L m ρ c hk f)) $$ H

end Slots

/-! ## A weight fetched into the staging buffer -/

section Fetch

variable (c : Dev nD)

/-- The staging buffer. -/
abbrev sPts : sProp 𝕄 := iprop(∃ f : Buf (Elt F) ((c : Thread nD τ).loc cc0_scratch3), (c : Thread nD τ).loc cc0_scratch3 ↦{fullShare} f)

/-- The semaphore of the copies inside the device. -/
abbrev wS : DmaSem sig := ⟨14, by decide⟩

theorem hz2 : (![0, 0] : Fin 2 → ℕ) = fun _ => 0 := by funext a; fin_cases a <;> rfl

/-- A weight copied into the staging buffer, waited for and read. -/
theorem wp_fetch (src : Memref sig .tc .hbm S1024x1024 .f32) (fs : Buf (Elt F) (src.view.loc (c : Thread nD τ))) (j : ℕ)
    {hsrc : src.view.WordExact} {hdst : (Memref.whole cc0_scratch3 : Memref sig .tc .vmem S1024x1024 .f32).view.WordExact}
    {hsem : DmaTarget.Typed .hbm (.dma wS) (.here (Memref.whole cc0_scratch3 : Memref sig .tc .vmem S1024x1024 .f32) : DmaTarget nD τ sig .tc .vmem S1024x1024 .f32)}
    {inb : ∀ a, (![0, 0] : Fin 2 → ℕ) a + S1024x1024.size a ≤ S1024x1024.size a}
    {hl : (Memref.whole cc0_scratch3 : Memref sig .tc .vmem S1024x1024 .f32).view.LoadsAt (Rect.unit (s := S1024x1024) ![0, 0] S1024x1024.size inb).toLoadRect}
    {α : Type} {Q : α → sProp 𝕄} {K : (S1024x1024.Idx → Elt F .f32) → Prog (TpuEff nD τ sig (Elt F) Λ₀ .tc) α} :
    iprop((src.view.loc (c : Thread nD τ) ↦[src.view.set]{fullShare} fs) ∗ sPts (F := F) c ∗ semVal (dcell c 14) 0 ∗ levAts L lv ∗ ow (F := F) c j)
      ⊢ iprop((((src.view.loc (c : Thread nD τ) ↦[src.view.set]{fullShare} fs) ∗ sPts (F := F) c ∗ semVal (dcell c 14) 0 ∗ ow (F := F) c j)
            -∗ Wp c (K (src.view.read (Elt F) fs)) Q)
        -∗ Wp c (.op (.enqueueDma src (.here (Memref.whole cc0_scratch3 : Memref sig .tc .vmem S1024x1024 .f32)) (.dma wS) hsrc hdst hsem) fun _ =>
            .op (.waitDma2 wS src (Memref.whole cc0_scratch3 : Memref sig .tc .vmem S1024x1024 .f32) hsrc hdst) fun _ =>
            .op (.load (Memref.whole cc0_scratch3 : Memref sig .tc .vmem S1024x1024 .f32) (Rect.unit (s := S1024x1024) ![0, 0] S1024x1024.size inb).toLoadRect hl) K) Q) := by
  iintro ⟨Hs, ⟨%fd, Hd⟩, Hv, #HL, HO⟩ Hk
  unfold ow
  icases HO with ⟨%W, HO⟩
  have hN0 : 0 < (Memref.whole cc0_scratch3 : Memref sig .tc .vmem S1024x1024 .f32).view.dmaCredit := View.dmaCredit_pos _ (by decide)
  iapply (Transfers.wp_dmaLocal (countersEmb (U := UU)) 𝒱₀ (c : Thread nD τ) none (src := src)
    (dst := (Memref.whole cc0_scratch3 : Memref sig .tc .vmem S1024x1024 .f32)) (sm := .dma wS) () _ rfl hN0 (Finset.subset_univ _)) $$ [Hs Hd Hv]
  · isplitl [Hs]; · iexact Hs
    isplitl [Hd]; · iexact Hd
    iexact Hv
  iintro Hf
  unfold Transfers.Flight
  icases Hf with ⟨⟨%R, HR, %hcap, %hpeek⟩, Hcred⟩
  iapply (wp_wait_token 𝒱₀ (c : Thread nD τ) none Set.univ (wpE_waitDma2_eq 𝒱₀ (c : Thread nD τ) none Set.univ) () (O := owed c j) (W := W)) $$ [Hcred HO]
  · isplitl [Hcred]; · iexact Hcred
    isplitl [HO]; · iexact HO
    iapply (mayWait_low c (.dma wS) j rfl)
    iexact HL
  iapply (hcap _)
  isplitl [HR]; · iexact HR
  iintro ⟨Hv, Hd, Hs⟩ HO
  iapply (wp_load 𝒱₀ (c : Thread nD τ) none Set.univ (m := (Memref.whole cc0_scratch3 : Memref sig .tc .vmem S1024x1024 .f32))
    (r := (Rect.unit (s := S1024x1024) ![0, 0] S1024x1024.size inb).toLoadRect) (Finset.subset_univ _)) $$ Hd
  iintro Hd
  have e : ∀ f, (Memref.whole cc0_scratch3 : Memref sig .tc .vmem S1024x1024 .f32).view.readAt (Elt F) (Rect.unit (s := S1024x1024) ![0, 0] S1024x1024.size inb).toLoadRect f = f :=
    fun f => Memref.readAt_unit_zero (Elt F) cc0_scratch3 hz2 _ f
  rw [e]
  have e' : (Memref.whole cc0_scratch3 : Memref sig .tc .vmem S1024x1024 .f32).view.write (Elt F) fd (src.view.read (Elt F) fs) Finset.univ
      = src.view.read (Elt F) fs := View.write_whole_univ cc0_scratch3 fd _
  rw [ReadAs.apply_same, e']
  iapply Hk
  isplitl [Hs]; · iexact Hs
  isplitl [Hd]; · iexists _; iexact Hd
  isplitl [Hv]; · iexact Hv
  iexists _; iexact HO

end Fetch

end Cert.KernelIdeal.Ring

end
-- ==== Proof.Ideal.Comm.lean ====
/-
  The parts of the body that signal, transfer, wait, fetch or store.
-/
module

public import proofs.«01_k».proof.Proof.Ideal.Access

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 13 → ℕ) (c : Dev nD)

/-- The level of the cell that payment `j` goes to. -/
def payLv : ℕ → ℕ
  | 0 => 4 | 1 => 4 | 2 => 3 | 3 => 3 | 4 => 2 | 5 => 2 | _ => 1
theorem pay_above (j : ℕ) : lv (payCell c j) () = payLv j := by
  match j with
  | 0 => rfl | 1 => rfl | 2 => rfl | 3 => rfl | 4 => rfl | 5 => rfl | 6 => rfl | n + 7 => rfl

/-! ## The first part: the barrier, and the device's own rows into slot 0 -/

/-- What the barrier takes: the three barrier cells, the two duties paid and the two units waited for. -/
def inB : sProp 𝕄 :=
  iprop(cellInv ER (rd m ρ) (K (c, 0)) (barCell c) ∗ cellInv ER (rd m ρ) (K (nxt c, 0)) (barCell (nxt c)) ∗ cellInv ER (rd m ρ) (K (prv c, 0)) (barCell (prv c))
    ∗ reached ER (barCell (nxt c)) 0 ∗ reached ER (barCell (prv c)) 0 ∗ levAts L lv
    ∗ dutyTok ER (barCell (prv c)) 0 true ∗ dutyTok ER (barCell (nxt c)) 0 false ∗ cred (tallyAt (barCell c) () 2) ∗ atPos ER (barCell c) 0 ∅ 0)
/-- What it leaves. -/
def dnB : sProp 𝕄 := iprop(cellInv ER (rd m ρ) (K (c, 0)) (barCell c) ∗ atPos ER (barCell c) 1 ∅ 0)

/-- The staged block of `x`. -/
abbrev xPts : sProp 𝕄 := (c : Thread nD τ).loc cc0_stg0_0 ↦{fullShare} xstg m ρ c

/-- The left neighbour's number and the right one's, as the kernel has them. -/
abbrev lftW : BitVec 32 := Scalar.remsi (Scalar.subi (Scalar.addi (my c) 4#32) 1#32) 4#32
abbrev rgtW : BitVec 32 := Scalar.remsi (Scalar.addi (my c) 1#32) 4#32

theorem hz3 : (![0, 0, 0] : Fin 3 → ℕ) = fun _ => 0 := by funext a; fin_cases a <;> rfl
theorem read_x (inb : ∀ a, (![0, 0, 0] : Fin 3 → ℕ) a + S2x512x1024.size a ≤ S2x512x1024.size a) (f : (cc0_stg0_0 : Ref sig .tc).ty.Contents (Elt F)) :
    (Memref.whole cc0_stg0_0 : Memref sig .tc .vmem S2x512x1024 .f32).view.readAt (Elt F) (Rect.unit (s := S2x512x1024) ![0, 0, 0] S2x512x1024.size inb).toLoadRect f = f :=
  Memref.readAt_unit_zero (Elt F) cc0_stg0_0 hz3 _ f

theorem part1 : iprop(inB m ρ K c ∗ rFree c ∗ lFree c ∗ (∃ f, rPts 0 (by decide) c fullShare f) ∗ (∃ f, lPts 0 (by decide) c fullShare f) ∗ xPts m ρ c ∗ ow (F := F) c 8)
    ⊢ Wp c (onBufs (k0_part1 (F := F))) (fun r => iprop(⌜r = ⟨c, my c, lftW c, rgtW c, xcat m ρ c 0, 1#32⟩⌝ ∗
        (dnB m ρ K c ∗ rFree (nxt c) ∗ lFree (prv c) ∗ rPts 0 (by decide) c fullShare (cR m ρ c) ∗ lPts 0 (by decide) c fullShare (cL m ρ c) ∗ xPts m ρ c ∗ ow c 6))) := by
  rw [k0_part1_eq_skeleton]; unfold onBufs k0_part1_skel Wp
  simp only [semSignalWord, semWaitWord, Prog.lift, Prog.bind_op, Prog.bind_ret, Prog.pure_eq_ret, wp_deviceId]
  unfold inB dnB ow
  iintro ⟨⟨#HI, #HIN, #HIP, #HrN, #HrP, #HL, HtP, HtN, Hc, Hat⟩, HfR, HfL, HsR, HsL, Hx, ⟨%W, HO⟩⟩
  simp only [dev1_eq c, dev2_eq c]
  iapply (Rounds.wp_signal 𝒱₀ ER (rd m ρ) (c : Thread nD τ) none (dst := (prv c : Thread nD τ)) (κ := K (prv c, 0))
      (d := true) (by rw [duties_bar]; decide) ((amount_bar m ρ (prv c) true).trans (by decide)) () (owed c 7) rfl)
    $$ [HO HtP HfR]
  · isplitr; · iexact HIP
    isplitl [HO]; · iexact HO
    isplitl [HtP]; · iexact HtP
    isplitl [HfR]; · rw [payload_bar_true, nxt_prv]; iexact HfR
    iexact HrP
  iintro HO
  iapply (Rounds.wp_signal 𝒱₀ ER (rd m ρ) (c : Thread nD τ) none (dst := (nxt c : Thread nD τ)) (κ := K (nxt c, 0))
      (d := false) (by rw [duties_bar]; decide) ((amount_bar m ρ (nxt c) false).trans (by decide)) () (owed c 6) rfl)
    $$ [HO HtN HfL]
  · isplitr; · iexact HIN
    isplitl [HO]; · iexact HO
    isplitl [HtN]; · iexact HtN
    isplitl [HfL]; · rw [payload_bar_false, prv_nxt]; iexact HfL
    iexact HrN
  iintro HO
  iapply (Rounds.wp_wait_rest_token 𝒱₀ ER (rd m ρ) (c : Thread nD τ) none (κ := K (c, 0))
      (wpE_semWait_eq 𝒱₀ (c : Thread nD τ) none Set.univ) (Set.mem_univ _) () (O := owed c 6) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barS) 6 1 le_rfl fun j hj => (pay_above c j).symm ▸ (by decide : ∀ j < 6, 1 < payLv j) j hj)
      iexact HL
    iexact Hat
  iintro ⟨HO, Hat, -, Hpay⟩
  ihave ⟨HfR, HfL⟩ := (Entails.of_eq (rest_bar m ρ c)) $$ Hpay
  iapply (wp_load 𝒱₀ (c : Thread nD τ) none Set.univ (m := (Memref.whole cc0_stg0_0 : Memref sig .tc .vmem S2x512x1024 .f32))
    (r := (Rect.unit (s := S2x512x1024) ![0, 0, 0] S2x512x1024.size inb_S2x512x1024_S2x512x1024_0_0_0).toLoadRect) (Finset.subset_univ _)) $$ Hx
  iintro Hx
  rw [read_x]
  iapply (wp_put0R m ρ c (Nat.zero_lt_succ 3)) $$ HsR
  iintro HsR
  iapply (wp_put0L m ρ c (Nat.zero_lt_succ 3)) $$ HsL
  iintro HsL
  unfold Wp
  rw [wp_ret]
  imodintro
  isplitr; · ipureintro; rfl
  isplitl [Hat]
  · isplitr; · iexact HI
    iexact Hat
  isplitl [HfR]; · iexact HfR
  isplitl [HfL]; · iexact HfL
  isplitl [HsR]; · iexact HsR
  isplitl [HsL]; · iexact HsL
  isplitl [Hx]; · iexact Hx
  iexists _; iexact HO

/-! ## The waits of a hop -/

/-- The wait for the slot lent to the right. -/
theorem wp_backR (a : ℕ) (ha : a < 3) (hk : a < 4) (hk' : a + 1 < 4) (hb : 2 + a < 15) (j : ℕ) (hv : lv (dcell c (2 + a) hb) () = 0)
    {hsrc : (rM (a + 1) hk').view.WordExact} {hdst : (rM a hk).view.WordExact}
    {α : Type} {Q : α → sProp 𝕄} {k : PUnit → Prog (TpuEff nD τ sig (Elt F) Λ₀ .tc) α} :
    iprop(flR m ρ K c a ha ∗ rPts a hk c fullShare.right (cR m ρ c) ∗ ow (F := F) c j)
      ⊢ iprop(((mdR m ρ K c a ha ∗ rPts a hk c fullShare (cR m ρ c) ∗ ow c j) -∗ Wp c (k ⟨⟩) Q)
          -∗ Wp c (.op (.waitDma2 (⟨2 + a, hb⟩ : DmaSem sig) (rM (a + 1) hk') (rM a hk) hsrc hdst) k) Q) := by
  unfold flR mdR iR
  iintro ⟨⟨⟨#HI1, #HI2, #HI3, #HR1, #HR2, #HL⟩, Hp1, Hp2, Hc1, Hc2⟩, Hs, HO⟩ Hk
  have hN : (rM a hk).view.dmaCredit = N := rfl
  have hw := mayWait_low (F := F) c (.dma (⟨2 + a, hb⟩ : DmaSem sig)) j hv
  have hq : 2 ≤ 2 + a ∧ 2 + a ≤ 13 := by omega
  iapply (wp_waitC m ρ c _ (2 + a) hb hq j hw hN) $$ [Hc1 Hp1 HO]
  · isplitr; · iexact HI1
    isplitr; · iexact HL
    isplitl [Hc1]; · iexact Hc1
    isplitl [Hp1]; · iexact Hp1
    iexact HO
  iintro ⟨Hp1, Hpay, HO⟩
  ihave HsL := (Entails.of_eq (payR_send m ρ c a ha)) $$ Hpay
  iapply Hk
  isplitl [Hp1 Hp2 Hc2]
  · isplitr
    · isplitr; · iexact HI1
      isplitr; · iexact HI2
      isplitr; · iexact HI3
      isplitr; · iexact HR1
      isplitr; · iexact HR2
      iexact HL
    isplitl [Hp1]; · iexact Hp1
    isplitl [Hp2]; · iexact Hp2
    iexact Hc2
  isplitl [HsL Hs]
  · iapply (pointsTo_share (PosShare.mem_left_op_right fullShare)).2
    isplitl [HsL]; · iexact HsL
    iexact Hs
  iexact HO
/-- The wait for the slot lent to the left. -/
theorem wp_backL (a : ℕ) (ha : a < 3) (hk : a < 4) (hk' : a + 1 < 4) (hb : 8 + a < 15) (j : ℕ) (hv : lv (dcell c (8 + a) hb) () = 0)
    {hsrc : (lM (a + 1) hk').view.WordExact} {hdst : (lM a hk).view.WordExact}
    {α : Type} {Q : α → sProp 𝕄} {k : PUnit → Prog (TpuEff nD τ sig (Elt F) Λ₀ .tc) α} :
    iprop(flL m ρ K c a ha ∗ lPts a hk c fullShare.right (cL m ρ c) ∗ ow (F := F) c j)
      ⊢ iprop(((mdL m ρ K c a ha ∗ lPts a hk c fullShare (cL m ρ c) ∗ ow c j) -∗ Wp c (k ⟨⟩) Q)
          -∗ Wp c (.op (.waitDma2 (⟨8 + a, hb⟩ : DmaSem sig) (lM (a + 1) hk') (lM a hk) hsrc hdst) k) Q) := by
  unfold flL mdL iL
  iintro ⟨⟨⟨#HI1, #HI2, #HI3, #HR1, #HR2, #HL⟩, Hp1, Hp2, Hc1, Hc2⟩, Hs, HO⟩ Hk
  have hN : (lM a hk).view.dmaCredit = N := rfl
  have hw := mayWait_low (F := F) c (.dma (⟨8 + a, hb⟩ : DmaSem sig)) j hv
  have hq : 2 ≤ 8 + a ∧ 8 + a ≤ 13 := by omega
  iapply (wp_waitC m ρ c _ (8 + a) hb hq j hw hN) $$ [Hc1 Hp1 HO]
  · isplitr; · iexact HI1
    isplitr; · iexact HL
    isplitl [Hc1]; · iexact Hc1
    isplitl [Hp1]; · iexact Hp1
    iexact HO
  iintro ⟨Hp1, Hpay, HO⟩
  ihave HsL := (Entails.of_eq (payL_send m ρ c a ha)) $$ Hpay
  iapply Hk
  isplitl [Hp1 Hp2 Hc2]
  · isplitr
    · isplitr; · iexact HI1
      isplitr; · iexact HI2
      isplitr; · iexact HI3
      isplitr; · iexact HR1
      isplitr; · iexact HR2
      iexact HL
    isplitl [Hp1]; · iexact Hp1
    isplitl [Hp2]; · iexact Hp2
    iexact Hc2
  isplitl [HsL Hs]
  · iapply (pointsTo_share (PosShare.mem_left_op_right fullShare)).2
    isplitl [HsL]; · iexact HsL
    iexact Hs
  iexact HO

/-- The wait for the slot that comes from the left. -/
theorem wp_gotR (a : ℕ) (ha : a < 3) (hk : a < 4) (hk' : a + 1 < 4) (he : 5 + a < 15) (j n : ℕ) (hn : lv (dcell c (5 + a) he) () ≤ n) (hj : ∀ i < j, n < payLv i)
    {hsrc : (rM a hk).view.WordExact} {hdst : (rM (a + 1) hk').view.WordExact}
    {α : Type} {Q : α → sProp 𝕄} {k : PUnit → Prog (TpuEff nD τ sig (Elt F) Λ₀ .tc) α} :
    iprop(mdR m ρ K c a ha ∗ ow (F := F) c j)
      ⊢ iprop(((dnR m ρ K c a ha ∗ rPts (a + 1) hk' c fullShare (cR m ρ c) ∗ ow c j) -∗ Wp c (k ⟨⟩) Q)
          -∗ Wp c (.op (.waitDma2 (⟨5 + a, he⟩ : DmaSem sig) (rM a hk) (rM (a + 1) hk') hsrc hdst) k) Q) := by
  unfold mdR dnR iR
  iintro ⟨⟨⟨#HI1, #HI2, #HI3, #HR1, #HR2, #HL⟩, Hp1, Hp2, Hc2⟩, HO⟩ Hk
  have hN : (rM (a + 1) hk').view.dmaCredit = N := rfl
  have hw := mayWait (F := F) c (.dma (⟨5 + a, he⟩ : DmaSem sig)) j n hn fun i hi => (pay_above c i).symm ▸ hj i hi
  have hq : 2 ≤ 5 + a ∧ 5 + a ≤ 13 := by omega
  iapply (wp_waitC m ρ c _ (5 + a) he hq j hw hN) $$ [Hc2 Hp2 HO]
  · isplitr; · iexact HI2
    isplitr; · iexact HL
    isplitl [Hc2]; · iexact Hc2
    isplitl [Hp2]; · iexact Hp2
    iexact HO
  iintro ⟨Hp2, Hpay, HO⟩
  ihave Hd := (Entails.of_eq (payR_recv m ρ c a ha)) $$ Hpay
  iapply Hk
  isplitl [Hp1 Hp2]
  · isplitr
    · isplitr; · iexact HI1
      isplitr; · iexact HI2
      isplitr; · iexact HI3
      isplitr; · iexact HR1
      isplitr; · iexact HR2
      iexact HL
    isplitl [Hp1]; · iexact Hp1
    iexact Hp2
  isplitl [Hd]; · iexact Hd
  iexact HO
/-- The wait for the slot that comes from the right. -/
theorem wp_gotL (a : ℕ) (ha : a < 3) (hk : a < 4) (hk' : a + 1 < 4) (he : 11 + a < 15) (j n : ℕ) (hn : lv (dcell c (11 + a) he) () ≤ n) (hj : ∀ i < j, n < payLv i)
    {hsrc : (lM a hk).view.WordExact} {hdst : (lM (a + 1) hk').view.WordExact}
    {α : Type} {Q : α → sProp 𝕄} {k : PUnit → Prog (TpuEff nD τ sig (Elt F) Λ₀ .tc) α} :
    iprop(mdL m ρ K c a ha ∗ ow (F := F) c j)
      ⊢ iprop(((dnL m ρ K c a ha ∗ lPts (a + 1) hk' c fullShare (cL m ρ c) ∗ ow c j) -∗ Wp c (k ⟨⟩) Q)
          -∗ Wp c (.op (.waitDma2 (⟨11 + a, he⟩ : DmaSem sig) (lM a hk) (lM (a + 1) hk') hsrc hdst) k) Q) := by
  unfold mdL dnL iL
  iintro ⟨⟨⟨#HI1, #HI2, #HI3, #HR1, #HR2, #HL⟩, Hp1, Hp2, Hc2⟩, HO⟩ Hk
  have hN : (lM (a + 1) hk').view.dmaCredit = N := rfl
  have hw := mayWait (F := F) c (.dma (⟨11 + a, he⟩ : DmaSem sig)) j n hn fun i hi => (pay_above c i).symm ▸ hj i hi
  have hq : 2 ≤ 11 + a ∧ 11 + a ≤ 13 := by omega
  iapply (wp_waitC m ρ c _ (11 + a) he hq j hw hN) $$ [Hc2 Hp2 HO]
  · isplitr; · iexact HI2
    isplitr; · iexact HL
    isplitl [Hc2]; · iexact Hc2
    isplitl [Hp2]; · iexact Hp2
    iexact HO
  iintro ⟨Hp2, Hpay, HO⟩
  ihave Hd := (Entails.of_eq (payL_recv m ρ c a ha)) $$ Hpay
  iapply Hk
  isplitl [Hp1 Hp2]
  · isplitr
    · isplitr; · iexact HI1
      isplitr; · iexact HI2
      isplitr; · iexact HI3
      isplitr; · iexact HR1
      isplitr; · iexact HR2
      iexact HL
    isplitl [Hp1]; · iexact Hp1
    iexact Hp2
  isplitl [Hd]; · iexact Hd
  iexact HO

/-! ## The hops -/

/-- What a hop leaves: both its transfers done, the four slots held. -/
def hopped (a : ℕ) (ha : a < 3) (hk : a < 4) (hk' : a + 1 < 4) : sProp 𝕄 :=
  iprop(dnR m ρ K c a ha ∗ dnL m ρ K c a ha ∗ rPts a hk c fullShare (cR m ρ c) ∗ lPts a hk c fullShare (cL m ρ c)
    ∗ rPts (a + 1) hk' c fullShare (cR m ρ c) ∗ lPts (a + 1) hk' c fullShare (cL m ρ c))
/-- A hop in flight. -/
def hopping (a : ℕ) (ha : a < 3) (hk : a < 4) : sProp 𝕄 :=
  iprop(flR m ρ K c a ha ∗ flL m ρ K c a ha ∗ rPts a hk c fullShare.right (cR m ρ c) ∗ lPts a hk c fullShare.right (cL m ρ c))

/-- Both transfers of hop `a` issued. -/
theorem wp_sends (a : ℕ) (ha : a < 3) (hk : a < 4) (hk' : a + 1 < 4) (h2 : 2 + a < 15) (h5 : 5 + a < 15) (h8 : 8 + a < 15) (h11 : 11 + a < 15)
    (j : ℕ) (hcR : payCell c (j + 1) = dcell (nxt c) (5 + a) h5) (hcL : payCell c j = dcell (prv c) (11 + a) h11) (hjR : payAmt (j + 1) = N) (hjL : payAmt j = N)
    (nR nL : Dev nD) (hnR : nR = nxt c) (hnL : nL = prv c) {scR scL srcR dstR semR srcL dstL semL}
    {α : Type} {Q : α → sProp 𝕄} {k : PUnit → Prog (TpuEff nD τ sig (Elt F) Λ₀ .tc) α} :
    iprop((inR m ρ K c a ha ∗ inL m ρ K c a ha) ∗ (rPts a hk c fullShare (cR m ρ c) ∗ lPts a hk c fullShare (cL m ρ c))
        ∗ ((∃ f, rPts (a + 1) hk' (nxt c) fullShare f) ∗ (∃ f, lPts (a + 1) hk' (prv c) fullShare f)) ∗ ow (F := F) c (j + 2))
      ⊢ iprop(((hopping m ρ K c a ha hk ∗ ow c j) -∗ Wp c (k ⟨⟩) Q)
          -∗ Wp c (.op (.enqueueDma (rM a hk) (.remote (Dev.tc nR : Thread nD τ) (rM (a + 1) hk') (.dma (⟨2 + a, h2⟩ : DmaSem sig)) scR)
              (.dma (⟨5 + a, h5⟩ : DmaSem sig)) srcR dstR semR) fun _ =>
            .op (.enqueueDma (lM a hk) (.remote (Dev.tc nL : Thread nD τ) (lM (a + 1) hk') (.dma (⟨8 + a, h8⟩ : DmaSem sig)) scL)
              (.dma (⟨11 + a, h11⟩ : DmaSem sig)) srcL dstL semL) k) Q) := by
  unfold hopping
  iintro ⟨⟨HR, HL⟩, ⟨HsR, HsL⟩, ⟨HdR, HdL⟩, HO⟩ Hk
  iapply (wp_sendR m ρ K c a ha hk hk' h2 h5 (j + 1) hcR hjR nR hnR) $$ [HR HsR HdR HO]
  · isplitl [HR]; · iexact HR
    isplitl [HsR]; · iexact HsR
    isplitl [HdR]; · iexact HdR
    iexact HO
  iintro ⟨HfR, HsR, HO⟩
  iapply (wp_sendL m ρ K c a ha hk hk' h8 h11 j hcL hjL nL hnL) $$ [HL HsL HdL HO]
  · isplitl [HL]; · iexact HL
    isplitl [HsL]; · iexact HsL
    isplitl [HdL]; · iexact HdL
    iexact HO
  iintro ⟨HfL, HsL, HO⟩
  iapply Hk
  isplitr [HO]
  · isplitl [HfR]; · iexact HfR
    isplitl [HfL]; · iexact HfL
    isplitl [HsR]; · iexact HsR
    iexact HsL
  iexact HO

/-- The last three waits of hop `a`. -/
theorem wp_waits3 (a : ℕ) (ha : a < 3) (hk : a < 4) (hk' : a + 1 < 4) (h5 : 5 + a < 15) (h8 : 8 + a < 15) (h11 : 11 + a < 15)
    (j n : ℕ) (hnR : lv (dcell c (5 + a) h5) () ≤ n) (hvL : lv (dcell c (8 + a) h8) () = 0) (hnL : lv (dcell c (11 + a) h11) () ≤ n) (hj : ∀ i < j, n < payLv i)
    {s1 d1 s2 d2 s3 d3} {α : Type} {Q : α → sProp 𝕄} {k : PUnit → Prog (TpuEff nD τ sig (Elt F) Λ₀ .tc) α} :
    iprop((mdR m ρ K c a ha ∗ rPts a hk c fullShare (cR m ρ c) ∗ flL m ρ K c a ha ∗ lPts a hk c fullShare.right (cL m ρ c)) ∗ ow (F := F) c j)
      ⊢ iprop(((hopped m ρ K c a ha hk hk' ∗ ow c j) -∗ Wp c (k ⟨⟩) Q)
          -∗ Wp c (.op (.waitDma2 (⟨5 + a, h5⟩ : DmaSem sig) (rM a hk) (rM (a + 1) hk') s1 d1) fun _ =>
            .op (.waitDma2 (⟨8 + a, h8⟩ : DmaSem sig) (lM (a + 1) hk') (lM a hk) s2 d2) fun _ =>
            .op (.waitDma2 (⟨11 + a, h11⟩ : DmaSem sig) (lM a hk) (lM (a + 1) hk') s3 d3) k) Q) := by
  unfold hopped
  iintro ⟨⟨HfR, HsR, HfL, HsL⟩, HO⟩ Hk
  iapply (wp_gotR m ρ K c a ha hk hk' h5 j n hnR hj) $$ [HfR HO]
  · isplitl [HfR]; · iexact HfR
    iexact HO
  iintro ⟨HfR, HdR, HO⟩
  iapply (wp_backL m ρ K c a ha hk hk' h8 j hvL) $$ [HfL HsL HO]
  · isplitl [HfL]; · iexact HfL
    isplitl [HsL]; · iexact HsL
    iexact HO
  iintro ⟨HfL, HsL, HO⟩
  iapply (wp_gotL m ρ K c a ha hk hk' h11 j n hnL hj) $$ [HfL HO]
  · isplitl [HfL]; · iexact HfL
    iexact HO
  iintro ⟨HfL, HdL, HO⟩
  iapply Hk
  isplitr [HO]
  · isplitl [HfR]; · iexact HfR
    isplitl [HfL]; · iexact HfL
    isplitl [HsR]; · iexact HsR
    isplitl [HsL]; · iexact HsL
    isplitl [HdR]; · iexact HdR
    iexact HdL
  iexact HO
/-- The four waits of hop `a`. -/
theorem wp_waits (a : ℕ) (ha : a < 3) (hk : a < 4) (hk' : a + 1 < 4) (h2 : 2 + a < 15) (h5 : 5 + a < 15) (h8 : 8 + a < 15) (h11 : 11 + a < 15)
    (j n : ℕ) (hvR : lv (dcell c (2 + a) h2) () = 0) (hnR : lv (dcell c (5 + a) h5) () ≤ n) (hvL : lv (dcell c (8 + a) h8) () = 0) (hnL : lv (dcell c (11 + a) h11) () ≤ n)
    (hj : ∀ i < j, n < payLv i)
    {s0 d0 s1 d1 s2 d2 s3 d3} {α : Type} {Q : α → sProp 𝕄} {k : PUnit → Prog (TpuEff nD τ sig (Elt F) Λ₀ .tc) α} :
    iprop(hopping m ρ K c a ha hk ∗ ow (F := F) c j)
      ⊢ iprop(((hopped m ρ K c a ha hk hk' ∗ ow c j) -∗ Wp c (k ⟨⟩) Q)
          -∗ Wp c (.op (.waitDma2 (⟨2 + a, h2⟩ : DmaSem sig) (rM (a + 1) hk') (rM a hk) s0 d0) fun _ =>
            .op (.waitDma2 (⟨5 + a, h5⟩ : DmaSem sig) (rM a hk) (rM (a + 1) hk') s1 d1) fun _ =>
            .op (.waitDma2 (⟨8 + a, h8⟩ : DmaSem sig) (lM (a + 1) hk') (lM a hk) s2 d2) fun _ =>
            .op (.waitDma2 (⟨11 + a, h11⟩ : DmaSem sig) (lM a hk) (lM (a + 1) hk') s3 d3) k) Q) := by
  unfold hopping
  iintro ⟨⟨HfR, HfL, HsR, HsL⟩, HO⟩ Hk
  iapply (wp_backR m ρ K c a ha hk hk' h2 j hvR) $$ [HfR HsR HO]
  · isplitl [HfR]; · iexact HfR
    isplitl [HsR]; · iexact HsR
    iexact HO
  iintro ⟨HfR, HsR, HO⟩
  iapply (wp_waits3 m ρ K c a ha hk hk' h5 h8 h11 j n hnR hvL hnL hj) $$ [HfR HsR HfL HsL HO]
  · isplitr [HO]
    · isplitl [HfR]; · iexact HfR
      isplitl [HsR]; · iexact HsR
      isplitl [HfL]; · iexact HfL
      iexact HsL
    iexact HO
  iexact Hk

/-- The end of a part. -/
theorem wp_done {α : Type} {r v : α} {P : sProp 𝕄} (h : r = v) : P ⊢ Wp c (.ret r) (fun r => iprop(⌜r = v⌝ ∗ P)) := by
  unfold Wp
  rw [wp_ret]
  iintro H
  imodintro
  isplitr; · ipureintro; exact h
  iexact H

end Cert.KernelIdeal.Ring

end
-- ==== Proof.Ideal.Parts.lean ====
/-
  The parts that transfer, and those that write the buffer of the queries.
-/
module

public import proofs.«01_k».proof.Proof.Ideal.Comm

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 13 → ℕ) (c : Dev nD)

/-- The end of a part that returns nothing. -/
theorem wp_doneU {P : sProp 𝕄} : P ⊢ Wp c (.ret PUnit.unit) (fun _ => iprop(True ∗ P)) := by
  unfold Wp
  rw [wp_ret]
  iintro H
  imodintro
  isplitr; · ipureintro; trivial
  iexact H
/-- The three weights that are fetched first, on the device. -/
abbrev hPts : sProp 𝕄 := iprop(((c : Thread nD τ).loc main_arg1 ↦{fullShare} wq m c) ∗ ((c : Thread nD τ).loc main_arg2 ↦{fullShare} wk m c)
  ∗ ((c : Thread nD τ).loc main_arg3 ↦{fullShare} wv m c))
/-- What a fetch takes besides the weight. -/
abbrev fPts : sProp 𝕄 := iprop(sPts (F := F) c ∗ semVal (dcell c 14) 0)
/-- A whole weight fetched. -/
theorem wp_weight (src : Memref sig .tc .hbm S1024x1024 .f32) (w : FVec F S1024x1024 .f32)
    (fs : Buf (Elt F) (src.view.loc (c : Thread nD τ))) (P : sProp 𝕄)
    (hP : P = (src.view.loc (c : Thread nD τ) ↦[src.view.set]{fullShare} fs)) (hw : src.view.read (Elt F) fs = w) (j : ℕ)
    {hsrc : src.view.WordExact} {hdst : (Memref.whole cc0_scratch3 : Memref sig .tc .vmem S1024x1024 .f32).view.WordExact}
    {hsem : DmaTarget.Typed .hbm (.dma wS) (.here (Memref.whole cc0_scratch3 : Memref sig .tc .vmem S1024x1024 .f32) : DmaTarget nD τ sig .tc .vmem S1024x1024 .f32)}
    {inb : ∀ a, (![0, 0] : Fin 2 → ℕ) a + S1024x1024.size a ≤ S1024x1024.size a}
    {hl : (Memref.whole cc0_scratch3 : Memref sig .tc .vmem S1024x1024 .f32).view.LoadsAt (Rect.unit (s := S1024x1024) ![0, 0] S1024x1024.size inb).toLoadRect}
    {α : Type} {Q : α → sProp 𝕄} {K : (S1024x1024.Idx → Elt F .f32) → Prog (TpuEff nD τ sig (Elt F) Λ₀ .tc) α} :
    iprop(P ∗ fPts (F := F) c ∗ levAts L lv ∗ ow (F := F) c j)
      ⊢ iprop(((P ∗ fPts (F := F) c ∗ ow (F := F) c j) -∗ Wp c (K w) Q)
        -∗ Wp c (.op (.enqueueDma src (.here (Memref.whole cc0_scratch3 : Memref sig .tc .vmem S1024x1024 .f32)) (.dma wS) hsrc hdst hsem) fun _ =>
            .op (.waitDma2 wS src (Memref.whole cc0_scratch3 : Memref sig .tc .vmem S1024x1024 .f32) hsrc hdst) fun _ =>
            .op (.load (Memref.whole cc0_scratch3 : Memref sig .tc .vmem S1024x1024 .f32) (Rect.unit (s := S1024x1024) ![0, 0] S1024x1024.size inb).toLoadRect hl) K) Q) := by
  subst hw hP
  iintro ⟨H, ⟨Hs, Hv⟩, #HL, HO⟩ Hk
  iapply (wp_fetch c src fs j) $$ [H Hs Hv HO]
  · isplitl [H]; · iexact H
    isplitl [Hs]; · iexact Hs
    isplitl [Hv]; · iexact Hv
    isplitr; · iexact HL
    iexact HO
  iintro ⟨H, Hs, Hv, HO⟩
  iapply Hk
  isplitl [H]; · iexact H
  isplitl [Hs Hv]
  · isplitl [Hs]; · iexact Hs
    iexact Hv
  iexact HO
/-- A whole buffer's points-to, as its memref has it. -/
theorem whole_pts (b : Ref sig .tc) (f : Buf (Elt F) ((c : Thread nD τ).loc b)) :
    ((c : Thread nD τ).loc b ↦{fullShare} f : sProp 𝕄) = ((View.whole b).loc (c : Thread nD τ) ↦[(View.whole b).set]{fullShare} f) := by
  rw [View.set_whole]
/-- Both cells' bundles and the slots before hop `a`. -/
abbrev ready (a : ℕ) (ha : a < 3) (hk : a < 4) (hk' : a + 1 < 4) : sProp 𝕄 :=
  iprop((inR m ρ K c a ha ∗ inL m ρ K c a ha) ∗ (rPts a hk c fullShare (cR m ρ c) ∗ lPts a hk c fullShare (cL m ρ c))
        ∗ ((∃ f, rPts (a + 1) hk' (nxt c) fullShare f) ∗ (∃ f, lPts (a + 1) hk' (prv c) fullShare f)))
theorem part2 (v5 v7 : BitVec 32) : iprop(ready m ρ K c 0 (by decide) (by decide) (by decide) ∗ hPts m c ∗ fPts (F := F) c ∗ levAts L lv ∗ ow (F := F) c 6)
    ⊢ Wp c (onBufs (k0_part2 (F := F)) c v5 v7 1#32) (fun r => iprop(⌜r = ⟨k0_pay6 (wq m c), k0_pay7 (wk m c), k0_pay8 (wv m c), lane, 2#32⟩⌝ ∗ (hopping m ρ K c 0 (by decide) (by decide) ∗ hPts m c ∗ fPts (F := F) c ∗ ow c 4))) := by
  rw [k0_part2_eq_skeleton]; unfold onBufs k0_part2_skel
  simp only [Prog.lift, Prog.bind_op, Prog.bind_ret, Prog.pure_eq_ret]
  iintro ⟨H, ⟨H1, H2, H3⟩, HF, #HL, HO⟩
  iapply (wp_sends m ρ K c 0 (of_decide_eq_true rfl : 0 < 3) (of_decide_eq_true rfl : 0 < 4) (of_decide_eq_true rfl : 1 < 4) (of_decide_eq_true rfl : 2 + 0 < 15) (of_decide_eq_true rfl : 5 + 0 < 15) (of_decide_eq_true rfl : 8 + 0 < 15) (of_decide_eq_true rfl : 11 + 0 < 15) 4 rfl rfl rfl rfl _ _ (dev3_eq c) (dev4_eq c)) $$ [H HO]
  · icases H with ⟨HA, HB, HC⟩
    isplitl [HA]; · iexact HA
    isplitl [HB]; · iexact HB
    isplitl [HC]; · iexact HC
    iexact HO
  iintro ⟨H, HO⟩
  iapply (wp_weight c (Memref.whole main_arg1 : Memref sig .tc .hbm S1024x1024 .f32) (wq m c) (wq m c) _ (whole_pts c main_arg1 _) rfl 4) $$ [H1 HF HO]
  · isplitl [H1]; · iexact H1
    isplitl [HF]; · iexact HF
    isplitr; · iexact HL
    iexact HO
  iintro ⟨H1, HF, HO⟩
  iapply (wp_weight c (Memref.whole main_arg2 : Memref sig .tc .hbm S1024x1024 .f32) (wk m c) (wk m c) _ (whole_pts c main_arg2 _) rfl 4) $$ [H2 HF HO]
  · isplitl [H2]; · iexact H2
    isplitl [HF]; · iexact HF
    isplitr; · iexact HL
    iexact HO
  iintro ⟨H2, HF, HO⟩
  iapply (wp_weight c (Memref.whole main_arg3 : Memref sig .tc .hbm S1024x1024 .f32) (wv m c) (wv m c) _ (whole_pts c main_arg3 _) rfl 4) $$ [H3 HF HO]
  · isplitl [H3]; · iexact H3
    isplitl [HF]; · iexact HF
    isplitr; · iexact HL
    iexact HO
  iintro ⟨H3, HF, HO⟩
  iapply (wp_done c rfl)
  isplitl [H]; · iexact H
  isplitl [H1 H2 H3]
  · isplitl [H1]; · iexact H1
    isplitl [H2]; · iexact H2
    iexact H3
  isplitl [HF]; · iexact HF
  iexact HO

theorem part9 (v5 v7 : BitVec 32) : iprop(hopping m ρ K c 0 (by decide) (by decide) ∗ ow (F := F) c 4)
    ⊢ Wp c (onBufs (k0_part9 (F := F)) v5 v7) (fun r => iprop(⌜r = ⟨⟩⌝ ∗ (hopped m ρ K c 0 (by decide) (by decide) (by decide) ∗ ow c 4))) := by
  rw [k0_part9_eq_skeleton]; unfold onBufs k0_part9_skel
  simp only [Prog.lift, Prog.bind_op, Prog.bind_ret, Prog.pure_eq_ret]
  iintro H
  iapply (wp_waits m ρ K c 0 (of_decide_eq_true rfl : 0 < 3) (of_decide_eq_true rfl : 0 < 4) (of_decide_eq_true rfl : 1 < 4) (of_decide_eq_true rfl : 2 + 0 < 15) (of_decide_eq_true rfl : 5 + 0 < 15) (of_decide_eq_true rfl : 8 + 0 < 15) (of_decide_eq_true rfl : 11 + 0 < 15) 4 2 rfl le_rfl rfl le_rfl (by decide)) $$ H
  iintro H
  iapply (wp_doneU c)
  iexact H

theorem part10 (v5 v7 : BitVec 32) : iprop(ready m ρ K c 1 (by decide) (by decide) (by decide) ∗ ow (F := F) c 4)
    ⊢ Wp c (onBufs (k0_part10 (F := F)) c (my c) v5 v7 (k0_pay7 (wk m c)) (k0_pay8 (wv m c))) (fun r => iprop(⌜r = ⟨xk m ρ c 1, xv m ρ c 1, Scalar.addi (my c) 3#32, 4#32⟩⌝ ∗ (hopping m ρ K c 1 (by decide) (by decide) ∗ ow c 2))) := by
  rw [k0_part10_eq_skeleton]; unfold onBufs k0_part10_skel
  simp only [Prog.lift, Prog.bind_op, Prog.bind_ret, Prog.pure_eq_ret]
  iintro ⟨H, HO⟩
  iapply (wp_sends m ρ K c 1 (of_decide_eq_true rfl : 1 < 3) (of_decide_eq_true rfl : 1 < 4) (of_decide_eq_true rfl : 2 < 4) (of_decide_eq_true rfl : 2 + 1 < 15) (of_decide_eq_true rfl : 5 + 1 < 15) (of_decide_eq_true rfl : 8 + 1 < 15) (of_decide_eq_true rfl : 11 + 1 < 15) 2 rfl rfl rfl rfl _ _ (dev5_eq c) (dev6_eq c)) $$ [H HO]
  · icases H with ⟨HA, HB, HC⟩
    isplitl [HA]; · iexact HA
    isplitl [HB]; · iexact HB
    isplitl [HC]; · iexact HC
    iexact HO
  iintro ⟨H, HO⟩
  unfold hopping
  icases H with ⟨HfR, HfL, HsR, HsL⟩
  iapply (wp_loadR m ρ c 1 (of_decide_eq_true rfl : 1 < 4) fullShare.right) $$ HsR
  iintro HsR
  iapply (wp_loadL m ρ c 1 (of_decide_eq_true rfl : 1 < 4) fullShare.right) $$ HsL
  iintro HsL
  iapply (wp_done c rfl)
  isplitr [HO]
  · isplitl [HfR]; · iexact HfR
    isplitl [HfL]; · iexact HfL
    isplitl [HsR]; · iexact HsR
    iexact HsL
  iexact HO

/-- A load of one head of the queries. -/
theorem wp_loadQ (b : Fin 2) (h : Fin 8) {o0 o1 : ℕ} {inb : ∀ a, (![o0, o1] : Fin 2 → ℕ) a + S512x128.size a ≤ S1024x1024.size a}
    {hl : (Memref.whole cc0_scratch2 : Memref sig .tc .vmem S1024x1024 .bf16).view.LoadsAt (qR o0 o1 inb).toLoadRect}
    {α : Type} {Q : α → sProp 𝕄} {k : (S512x128.Idx → Elt F .bf16) → Prog (TpuEff nD τ sig (Elt F) Λ₀ .tc) α}
    (h0 : o0 = 512 * b.val) (h1 : o1 = 128 * h.val) :
    qPts c (qbuf m ρ c) ⊢ iprop((qPts c (qbuf m ρ c) -∗ Wp c (k (colsH h (qq m ρ c b))) Q)
      -∗ Wp c (.op (.load (Memref.whole cc0_scratch2 : Memref sig .tc .vmem S1024x1024 .bf16) (qR o0 o1 inb).toLoadRect hl) k) Q) := by
  rw [← read_q m ρ c b h o0 o1 h0 h1 inb]
  exact wp_load 𝒱₀ (c : Thread nD τ) none Set.univ (m := (Memref.whole cc0_scratch2 : Memref sig .tc .vmem S1024x1024 .bf16))
    (r := (qR o0 o1 inb).toLoadRect) (Finset.subset_univ _)

theorem part16 (v5 v7 : BitVec 32) : iprop(qPts c (qbuf m ρ c) ∗ hopping m ρ K c 1 (by decide) (by decide) ∗ ow (F := F) c 2)
    ⊢ Wp c (onBufs (k0_part16 (F := F)) v7 (ll m ρ c 0 1 6) (aa m ρ c 0 1 6) (ll m ρ c 0 1 7) (aa m ρ c 0 1 7) (kk m ρ c 1 1) (vv m ρ c 1 1)) (fun r => iprop(⌜r = ⟨ll m ρ c 1 1 6, aa m ρ c 1 1 6, ll m ρ c 1 1 7, aa m ρ c 1 1 7⟩⌝ ∗ (qPts c (qbuf m ρ c) ∗ (mdR m ρ K c 1 (by decide) ∗ rPts 1 (by decide) c fullShare (cR m ρ c) ∗ flL m ρ K c 1 (by decide) ∗ lPts 1 (by decide) c fullShare.right (cL m ρ c)) ∗ ow c 2))) := by
  rw [k0_part16_eq_skeleton]; unfold onBufs k0_part16_skel
  simp only [Prog.lift, Prog.bind_op, Prog.bind_ret, Prog.pure_eq_ret]
  unfold hopping
  iintro ⟨Hq, ⟨HfR, HfL, HsR, HsL⟩, HO⟩
  iapply (wp_loadQ m ρ c 1 6 rfl rfl) $$ Hq
  iintro Hq
  iapply (wp_loadQ m ρ c 1 7 rfl rfl) $$ Hq
  iintro Hq
  iapply (wp_backR m ρ K c 1 (of_decide_eq_true rfl : 1 < 3) (of_decide_eq_true rfl : 1 < 4) (of_decide_eq_true rfl : 2 < 4) (of_decide_eq_true rfl : 2 + 1 < 15) 2 rfl) $$ [HfR HsR HO]
  · isplitl [HfR]; · iexact HfR
    isplitl [HsR]; · iexact HsR
    iexact HO
  iintro ⟨HfR, HsR, HO⟩
  iapply (wp_done c rfl)
  isplitl [Hq]; · iexact Hq
  isplitr [HO]
  · isplitl [HfR]; · iexact HfR
    isplitl [HsR]; · iexact HsR
    isplitl [HfL]; · iexact HfL
    iexact HsL
  iexact HO

theorem part17 (v5 v7 : BitVec 32) : iprop((mdR m ρ K c 1 (by decide) ∗ rPts 1 (by decide) c fullShare (cR m ρ c) ∗ flL m ρ K c 1 (by decide) ∗ lPts 1 (by decide) c fullShare.right (cL m ρ c)) ∗ ow (F := F) c 2)
    ⊢ Wp c (onBufs (k0_part17 (F := F)) v5 v7) (fun r => iprop(⌜r = ⟨⟩⌝ ∗ (hopped m ρ K c 1 (by decide) (by decide) (by decide) ∗ ow c 2))) := by
  rw [k0_part17_eq_skeleton]; unfold onBufs k0_part17_skel
  simp only [Prog.lift, Prog.bind_op, Prog.bind_ret, Prog.pure_eq_ret]
  iintro H
  iapply (wp_waits3 m ρ K c 1 (of_decide_eq_true rfl : 1 < 3) (of_decide_eq_true rfl : 1 < 4) (of_decide_eq_true rfl : 2 < 4) (of_decide_eq_true rfl : 5 + 1 < 15) (of_decide_eq_true rfl : 8 + 1 < 15) (of_decide_eq_true rfl : 11 + 1 < 15) 2 3 le_rfl rfl le_rfl (by decide)) $$ H
  iintro H
  iapply (wp_doneU c)
  iexact H

theorem part18 (v5 v7 : BitVec 32) : iprop(ready m ρ K c 2 (by decide) (by decide) (by decide) ∗ ow (F := F) c 2)
    ⊢ Wp c (onBufs (k0_part18 (F := F)) c (my c) v5 (k0_pay7 (wk m c)) (k0_pay8 (wv m c)) (freq (F := F)) (cosS (F := F)) (sinS (F := F))) (fun r => iprop(⌜r = ⟨xk m ρ c 2, xv m ρ c 2, cosO (F := F) c 2, k0_pay159 (my c) (freq (F := F)) (cosS (F := F)) (sinS (F := F)), k0_pay160 (my c) (freq (F := F))⟩⌝ ∗ (hopping m ρ K c 2 (by decide) (by decide) ∗ ow c 0))) := by
  rw [k0_part18_eq_skeleton]; unfold onBufs k0_part18_skel
  simp only [Prog.lift, Prog.bind_op, Prog.bind_ret, Prog.pure_eq_ret]
  iintro ⟨H, HO⟩
  iapply (wp_sends m ρ K c 2 (of_decide_eq_true rfl : 2 < 3) (of_decide_eq_true rfl : 2 < 4) (of_decide_eq_true rfl : 3 < 4) (of_decide_eq_true rfl : 2 + 2 < 15) (of_decide_eq_true rfl : 5 + 2 < 15) (of_decide_eq_true rfl : 8 + 2 < 15) (of_decide_eq_true rfl : 11 + 2 < 15) 0 rfl rfl rfl rfl _ _ (dev7_eq c) (dev8_eq c)) $$ [H HO]
  · icases H with ⟨HA, HB, HC⟩
    isplitl [HA]; · iexact HA
    isplitl [HB]; · iexact HB
    isplitl [HC]; · iexact HC
    iexact HO
  iintro ⟨H, HO⟩
  unfold hopping
  icases H with ⟨HfR, HfL, HsR, HsL⟩
  iapply (wp_loadR m ρ c 2 (of_decide_eq_true rfl : 2 < 4) fullShare.right) $$ HsR
  iintro HsR
  iapply (wp_loadL m ρ c 2 (of_decide_eq_true rfl : 2 < 4) fullShare.right) $$ HsL
  iintro HsL
  iapply (wp_done c rfl)
  isplitr [HO]
  · isplitl [HfR]; · iexact HfR
    isplitl [HfL]; · iexact HfL
    isplitl [HsR]; · iexact HsR
    iexact HsL
  iexact HO

theorem part24 (v5 v7 : BitVec 32) : iprop(hopping m ρ K c 2 (by decide) (by decide) ∗ ow (F := F) c 0)
    ⊢ Wp c (onBufs (k0_part24 (F := F)) v5 v7) (fun r => iprop(⌜r = ⟨⟩⌝ ∗ (hopped m ρ K c 2 (by decide) (by decide) (by decide) ∗ ow c 0))) := by
  rw [k0_part24_eq_skeleton]; unfold onBufs k0_part24_skel
  simp only [Prog.lift, Prog.bind_op, Prog.bind_ret, Prog.pure_eq_ret]
  iintro H
  iapply (wp_waits m ρ K c 2 (of_decide_eq_true rfl : 2 < 3) (of_decide_eq_true rfl : 2 < 4) (of_decide_eq_true rfl : 3 < 4) (of_decide_eq_true rfl : 2 + 2 < 15) (of_decide_eq_true rfl : 5 + 2 < 15) (of_decide_eq_true rfl : 8 + 2 < 15) (of_decide_eq_true rfl : 11 + 2 < 15) 0 4 rfl le_rfl rfl le_rfl (by decide)) $$ H
  iintro H
  iapply (wp_doneU c)
  iexact H

theorem part25 (v5 v7 : BitVec 32) : iprop(qPts c (qbuf m ρ c) ∗ rPts 3 (by decide) c fullShare (cR m ρ c) ∗ lPts 3 (by decide) c fullShare (cL m ρ c))
    ⊢ Wp c (onBufs (k0_part25 (F := F)) (k0_pay7 (wk m c)) (k0_pay8 (wv m c)) k0_pay13 (cosT (F := F) c 1) (sinT (F := F) c 1) (ll m ρ c 2 0 0) (aa m ρ c 2 0 0) (ll m ρ c 2 0 1) (aa m ρ c 2 0 1)) (fun r => iprop(⌜r = ⟨xk m ρ c 3, xv m ρ c 3, kk m ρ c 3 0, vv m ρ c 3 0, ll m ρ c 3 0 0, aa m ρ c 3 0 0, ll m ρ c 3 0 1, aa m ρ c 3 0 1⟩⌝ ∗ (qPts c (qbuf m ρ c) ∗ rPts 3 (by decide) c fullShare (cR m ρ c) ∗ lPts 3 (by decide) c fullShare (cL m ρ c)))) := by
  rw [k0_part25_eq_skeleton]; unfold onBufs k0_part25_skel
  simp only [Prog.lift, Prog.bind_op, Prog.bind_ret, Prog.pure_eq_ret]
  iintro ⟨Hq, HsR, HsL⟩
  iapply (wp_loadR m ρ c 3 (of_decide_eq_true rfl : 3 < 4) fullShare) $$ HsR
  iintro HsR
  iapply (wp_loadL m ρ c 3 (of_decide_eq_true rfl : 3 < 4) fullShare) $$ HsL
  iintro HsL
  iapply (wp_loadQ m ρ c 0 0 rfl rfl) $$ Hq
  iintro Hq
  iapply (wp_loadQ m ρ c 0 1 rfl rfl) $$ Hq
  iintro Hq
  iapply (wp_done c rfl)
  isplitl [Hq]; · iexact Hq
  isplitl [HsR]; · iexact HsR
  iexact HsL

theorem part30 : Writes m ρ c 0 5 (onBufs (k0_part30 (F := F)) (aa m ρ c 3 0 0) (ll m ρ c 3 0 1) (aa m ρ c 3 0 1) (ll m ρ c 3 0 2) (aa m ρ c 3 0 2) (ll m ρ c 3 0 3) (aa m ρ c 3 0 3) (ll m ρ c 3 0 4) (aa m ρ c 3 0 4) (ll m ρ c 3 0 5) (linv m ρ c 0 0)) (linv m ρ c 0 5) := by
  rw [k0_part30_eq_skeleton]
  exact writes_load fun _ => writes_store 0 0 rfl rfl rfl rfl (writes_load fun _ => writes_store 0 1 rfl rfl rfl rfl (writes_load fun _ => writes_store 0 2 rfl rfl rfl rfl (writes_load fun _ => writes_store 0 3 rfl rfl rfl rfl (writes_load fun _ => writes_store 0 4 rfl rfl rfl rfl (writes_ret rfl)))))

theorem part31 : Writes m ρ c 5 10 (onBufs (k0_part31 (F := F)) (aa m ρ c 3 0 5) (ll m ρ c 3 0 6) (aa m ρ c 3 0 6) (ll m ρ c 3 0 7) (aa m ρ c 3 0 7) (ll m ρ c 3 1 0) (aa m ρ c 3 1 0) (ll m ρ c 3 1 1) (aa m ρ c 3 1 1) (ll m ρ c 3 1 2) (linv m ρ c 0 5)) (linv m ρ c 1 2) := by
  rw [k0_part31_eq_skeleton]
  exact writes_load fun _ => writes_store 0 5 rfl rfl rfl rfl (writes_load fun _ => writes_store 0 6 rfl rfl rfl rfl (writes_load fun _ => writes_store 0 7 rfl rfl rfl rfl (writes_load fun _ => writes_store 1 0 rfl rfl rfl rfl (writes_load fun _ => writes_store 1 1 rfl rfl rfl rfl (writes_ret rfl)))))

theorem part32 : Writes m ρ c 10 15 (onBufs (k0_part32 (F := F)) (aa m ρ c 3 1 2) (ll m ρ c 3 1 3) (aa m ρ c 3 1 3) (ll m ρ c 3 1 4) (aa m ρ c 3 1 4) (ll m ρ c 3 1 5) (aa m ρ c 3 1 5) (ll m ρ c 3 1 6) (aa m ρ c 3 1 6) (ll m ρ c 3 1 7) (linv m ρ c 1 2)) (linv m ρ c 1 7) := by
  rw [k0_part32_eq_skeleton]
  exact writes_load fun _ => writes_store 1 2 rfl rfl rfl rfl (writes_load fun _ => writes_store 1 3 rfl rfl rfl rfl (writes_load fun _ => writes_store 1 4 rfl rfl rfl rfl (writes_load fun _ => writes_store 1 5 rfl rfl rfl rfl (writes_load fun _ => writes_store 1 6 rfl rfl rfl rfl (writes_ret rfl)))))

end Cert.KernelIdeal.Ring

end
-- ==== Proof.Ideal.Hop0.lean ====
/-
  The parts of the body that only read the queries: those of the device's own rows.
-/
module

public import proofs.«01_k».proof.Proof.Ideal.Access

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

theorem part3 : Reads m ρ c (onBufs (k0_part3 (F := F)) (my c) (xcat m ρ c 0) (k0_pay6 (wq m c)) lane 2#32)
    ⟨freq (F := F), cosS (F := F), sinS (F := F), k0_pay13, cosT (F := F) c 0, sinT (F := F) c 0, xq m ρ c, rowsB 0 (xq m ρ c), k0_pay21 (xcat m ρ c 0) (k0_pay6 (wq m c)), 1#32⟩ := by
  rw [k0_part3_eq_skeleton]
  exact reads_ret rfl

theorem part5 : Reads m ρ c (onBufs (k0_part5 (F := F)) (kk m ρ c 0 0) (vv m ρ c 0 0) (pp m ρ c 0 0 0) (rsum m ρ c 0 0 0))
    ⟨ll m ρ c 0 0 0, aa m ρ c 0 0 0, ll m ρ c 0 0 1, aa m ρ c 0 0 1, ll m ρ c 0 0 2, aa m ρ c 0 0 2, ll m ρ c 0 0 3, aa m ρ c 0 0 3, ll m ρ c 0 0 4, pb m ρ c 0 0 4, colsH 4 (vv m ρ c 0 0), constant S512x128 .f32 0x00000000#32⟩ := by
  rw [k0_part5_eq_skeleton]
  exact reads_load 0 1 rfl rfl (reads_load 0 2 rfl rfl (reads_load 0 3 rfl rfl (reads_load 0 4 rfl rfl (reads_ret rfl))))

theorem part6 : Reads m ρ c (onBufs (k0_part6 (F := F)) k0_pay13 (cosT (F := F) c 0) (sinT (F := F) c 0) (xk m ρ c 0) (xv m ρ c 0) (kk m ρ c 0 0) (vv m ρ c 0 0) (pb m ρ c 0 0 4) (colsH 4 (vv m ρ c 0 0)) (constant S512x128 .f32 0x00000000#32))
    ⟨aa m ρ c 0 0 4, ll m ρ c 0 0 5, aa m ρ c 0 0 5, ll m ρ c 0 0 6, aa m ρ c 0 0 6, ll m ρ c 0 0 7, aa m ρ c 0 0 7, kk m ρ c 0 1, vv m ρ c 0 1, colsH 0 (qq m ρ c 1), colsH 0 (kk m ρ c 0 1)⟩ := by
  rw [k0_part6_eq_skeleton]
  exact reads_load 0 5 rfl rfl (reads_load 0 6 rfl rfl (reads_load 0 7 rfl rfl (reads_load 1 0 rfl rfl (reads_ret rfl))))

theorem part7 : Reads m ρ c (onBufs (k0_part7 (F := F)) (kk m ρ c 0 1) (vv m ρ c 0 1) (colsH 0 (qq m ρ c 1)) (colsH 0 (kk m ρ c 0 1)))
    ⟨ll m ρ c 0 1 0, aa m ρ c 0 1 0, ll m ρ c 0 1 1, aa m ρ c 0 1 1, ll m ρ c 0 1 2, aa m ρ c 0 1 2, ll m ρ c 0 1 3, aa m ρ c 0 1 3, pp m ρ c 0 1 4⟩ := by
  rw [k0_part7_eq_skeleton]
  exact reads_load 1 1 rfl rfl (reads_load 1 2 rfl rfl (reads_load 1 3 rfl rfl (reads_load 1 4 rfl rfl (reads_ret rfl))))

theorem part8 : Reads m ρ c (onBufs (k0_part8 (F := F)) (kk m ρ c 0 1) (vv m ρ c 0 1) (pp m ρ c 0 1 4))
    ⟨ll m ρ c 0 1 4, aa m ρ c 0 1 4, ll m ρ c 0 1 5, aa m ρ c 0 1 5, ll m ρ c 0 1 6, aa m ρ c 0 1 6, ll m ρ c 0 1 7, aa m ρ c 0 1 7⟩ := by
  rw [k0_part8_eq_skeleton]
  exact reads_load 1 5 rfl rfl (reads_load 1 6 rfl rfl (reads_load 1 7 rfl rfl (reads_ret rfl)))

end Cert.KernelIdeal.Ring

end
-- ==== Proof.Ideal.Hop1.lean ====
/-
  The parts of the body that only read the queries: those of the rows of the first hop.
-/
module

public import proofs.«01_k».proof.Proof.Ideal.Access

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

theorem part11 : Reads m ρ c (onBufs (k0_part11 (F := F)) (my c) (freq (F := F)) (cosS (F := F)) (sinS (F := F)) k0_pay13 (xk m ρ c 1) (Scalar.addi (my c) 3#32) 4#32)
    ⟨cosT (F := F) c 3, sinT (F := F) c 3, cosT (F := F) c 1, sinT (F := F) c 1, mulf (rowsB 0 (xk m ρ c 1)) (cosT c 3), k0_pay97 (freq (F := F)) (cosS (F := F)) (sinS (F := F)) k0_pay13 (xk m ρ c 1) (Scalar.addi (my c) 3#32) 4#32⟩ := by
  rw [k0_part11_eq_skeleton]
  exact reads_ret rfl

theorem part12 : Reads m ρ c (onBufs (k0_part12 (F := F)) (ll m ρ c 0 0 0) (aa m ρ c 0 0 0) (ll m ρ c 0 0 1) (aa m ρ c 0 0 1) (ll m ρ c 0 0 2) (aa m ρ c 0 0 2) (xv m ρ c 1) (mulf (rowsB 0 (xk m ρ c 1)) (cosT c 3)) (k0_pay97 (freq (F := F)) (cosS (F := F)) (sinS (F := F)) k0_pay13 (xk m ρ c 1) (Scalar.addi (my c) 3#32) 4#32))
    ⟨kk m ρ c 1 0, vv m ρ c 1 0, ll m ρ c 1 0 0, aa m ρ c 1 0 0, ll m ρ c 1 0 1, aa m ρ c 1 0 1, ll m ρ c 1 0 2, aa m ρ c 1 0 2, pp m ρ c 1 0 3, dl m ρ c 1 0 3⟩ := by
  rw [k0_part12_eq_skeleton]
  exact reads_load 0 0 rfl rfl (reads_load 0 1 rfl rfl (reads_load 0 2 rfl rfl (reads_load 0 3 rfl rfl (reads_ret rfl))))

theorem part13 : Reads m ρ c (onBufs (k0_part13 (F := F)) (ll m ρ c 0 0 3) (aa m ρ c 0 0 3) (ll m ρ c 0 0 4) (aa m ρ c 0 0 4) (ll m ρ c 0 0 5) (aa m ρ c 0 0 5) (ll m ρ c 0 0 6) (aa m ρ c 0 0 6) (kk m ρ c 1 0) (vv m ρ c 1 0) (pp m ρ c 1 0 3) (dl m ρ c 1 0 3))
    ⟨ll m ρ c 1 0 3, aa m ρ c 1 0 3, ll m ρ c 1 0 4, aa m ρ c 1 0 4, ll m ρ c 1 0 5, aa m ρ c 1 0 5, ll m ρ c 1 0 6, aa m ρ c 1 0 6, matmul dot_S512x128_S512x128_S512x512_1_1_0_0_n_n none (colsH 7 (qq m ρ c 0)) (colsH 7 (kk m ρ c 1 0)) (constant S512x512 .f32 0x00000000#32)⟩ := by
  rw [k0_part13_eq_skeleton]
  exact reads_load 0 4 rfl rfl (reads_load 0 5 rfl rfl (reads_load 0 6 rfl rfl (reads_load 0 7 rfl rfl (reads_ret rfl))))

theorem part14 : Reads m ρ c (onBufs (k0_part14 (F := F)) k0_pay13 (ll m ρ c 0 0 7) (aa m ρ c 0 0 7) (ll m ρ c 0 1 0) (aa m ρ c 0 1 0) (ll m ρ c 0 1 1) (aa m ρ c 0 1 1) (xk m ρ c 1) (xv m ρ c 1) (cosT (F := F) c 1) (sinT (F := F) c 1) (vv m ρ c 1 0) (matmul dot_S512x128_S512x128_S512x512_1_1_0_0_n_n none (colsH 7 (qq m ρ c 0)) (colsH 7 (kk m ρ c 1 0)) (constant S512x512 .f32 0x00000000#32)))
    ⟨ll m ρ c 1 0 7, aa m ρ c 1 0 7, kk m ρ c 1 1, vv m ρ c 1 1, ll m ρ c 1 1 0, aa m ρ c 1 1 0, ll m ρ c 1 1 1, aa m ρ c 1 1 1, colsH 2 (qq m ρ c 1), colsH 2 (kk m ρ c 1 1), constant S512x512 .f32 0x00000000#32⟩ := by
  rw [k0_part14_eq_skeleton]
  exact reads_load 1 0 rfl rfl (reads_load 1 1 rfl rfl (reads_load 1 2 rfl rfl (reads_ret rfl)))

theorem part15 : Reads m ρ c (onBufs (k0_part15 (F := F)) (ll m ρ c 0 1 2) (aa m ρ c 0 1 2) (ll m ρ c 0 1 3) (aa m ρ c 0 1 3) (ll m ρ c 0 1 4) (aa m ρ c 0 1 4) (ll m ρ c 0 1 5) (aa m ρ c 0 1 5) (kk m ρ c 1 1) (vv m ρ c 1 1) (colsH 2 (qq m ρ c 1)) (colsH 2 (kk m ρ c 1 1)) (constant S512x512 .f32 0x00000000#32))
    ⟨ll m ρ c 1 1 2, aa m ρ c 1 1 2, ll m ρ c 1 1 3, aa m ρ c 1 1 3, ll m ρ c 1 1 4, aa m ρ c 1 1 4, ll m ρ c 1 1 5, aa m ρ c 1 1 5⟩ := by
  rw [k0_part15_eq_skeleton]
  exact reads_load 1 3 rfl rfl (reads_load 1 4 rfl rfl (reads_load 1 5 rfl rfl (reads_ret rfl)))

end Cert.KernelIdeal.Ring

end
-- ==== Proof.Ideal.Hop2.lean ====
/-
  The parts of the body that only read the queries: those of the rows of the second hop.
-/
module

public import proofs.«01_k».proof.Proof.Ideal.Access

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

theorem part19 : Reads m ρ c (onBufs (k0_part19 (F := F)) (cosS (F := F)) (sinS (F := F)) k0_pay13 (ll m ρ c 1 0 0) (aa m ρ c 1 0 0) (ll m ρ c 1 0 1) (aa m ρ c 1 0 1) (xk m ρ c 2) (xv m ρ c 2) (cosO (F := F) c 2) (k0_pay159 (my c) (freq (F := F)) (cosS (F := F)) (sinS (F := F))) (k0_pay160 (my c) (freq (F := F))))
    ⟨cosT (F := F) c 2, sinT (F := F) c 2, kk m ρ c 2 0, vv m ρ c 2 0, ll m ρ c 2 0 0, aa m ρ c 2 0 0, ll m ρ c 2 0 1, aa m ρ c 2 0 1, pp m ρ c 2 0 2, rsum m ρ c 2 0 2⟩ := by
  rw [k0_part19_eq_skeleton]
  exact reads_load 0 0 rfl rfl (reads_load 0 1 rfl rfl (reads_load 0 2 rfl rfl (reads_ret rfl)))

theorem part20 : Reads m ρ c (onBufs (k0_part20 (F := F)) (ll m ρ c 1 0 2) (aa m ρ c 1 0 2) (ll m ρ c 1 0 3) (aa m ρ c 1 0 3) (ll m ρ c 1 0 4) (aa m ρ c 1 0 4) (ll m ρ c 1 0 5) (aa m ρ c 1 0 5) (kk m ρ c 2 0) (vv m ρ c 2 0) (pp m ρ c 2 0 2) (rsum m ρ c 2 0 2))
    ⟨ll m ρ c 2 0 2, aa m ρ c 2 0 2, ll m ρ c 2 0 3, aa m ρ c 2 0 3, ll m ρ c 2 0 4, aa m ρ c 2 0 4, ll m ρ c 2 0 5, aa m ρ c 2 0 5, colsH 6 (qq m ρ c 0), colsH 6 (kk m ρ c 2 0), constant S512x512 .f32 0x00000000#32⟩ := by
  rw [k0_part20_eq_skeleton]
  exact reads_load 0 3 rfl rfl (reads_load 0 4 rfl rfl (reads_load 0 5 rfl rfl (reads_load 0 6 rfl rfl (reads_ret rfl))))

theorem part21 : Reads m ρ c (onBufs (k0_part21 (F := F)) k0_pay13 (ll m ρ c 1 0 6) (aa m ρ c 1 0 6) (ll m ρ c 1 0 7) (aa m ρ c 1 0 7) (ll m ρ c 1 1 0) (aa m ρ c 1 1 0) (xk m ρ c 2) (xv m ρ c 2) (cosT (F := F) c 2) (sinT (F := F) c 2) (kk m ρ c 2 0) (vv m ρ c 2 0) (colsH 6 (qq m ρ c 0)) (colsH 6 (kk m ρ c 2 0)) (constant S512x512 .f32 0x00000000#32))
    ⟨ll m ρ c 2 0 6, aa m ρ c 2 0 6, ll m ρ c 2 0 7, aa m ρ c 2 0 7, kk m ρ c 2 1, vv m ρ c 2 1, ll m ρ c 2 1 0, aa m ρ c 2 1 0, colsH 1 (qq m ρ c 1), colsH 1 (kk m ρ c 2 1)⟩ := by
  rw [k0_part21_eq_skeleton]
  exact reads_load 0 7 rfl rfl (reads_load 1 0 rfl rfl (reads_load 1 1 rfl rfl (reads_ret rfl)))

theorem part22 : Reads m ρ c (onBufs (k0_part22 (F := F)) (ll m ρ c 1 1 1) (aa m ρ c 1 1 1) (ll m ρ c 1 1 2) (aa m ρ c 1 1 2) (ll m ρ c 1 1 3) (aa m ρ c 1 1 3) (ll m ρ c 1 1 4) (aa m ρ c 1 1 4) (kk m ρ c 2 1) (vv m ρ c 2 1) (colsH 1 (qq m ρ c 1)) (colsH 1 (kk m ρ c 2 1)))
    ⟨ll m ρ c 2 1 1, aa m ρ c 2 1 1, ll m ρ c 2 1 2, aa m ρ c 2 1 2, ll m ρ c 2 1 3, aa m ρ c 2 1 3, ll m ρ c 2 1 4, aa m ρ c 2 1 4⟩ := by
  rw [k0_part22_eq_skeleton]
  exact reads_load 1 2 rfl rfl (reads_load 1 3 rfl rfl (reads_load 1 4 rfl rfl (reads_ret rfl)))

theorem part23 : Reads m ρ c (onBufs (k0_part23 (F := F)) (ll m ρ c 1 1 5) (aa m ρ c 1 1 5) (ll m ρ c 1 1 6) (aa m ρ c 1 1 6) (ll m ρ c 1 1 7) (aa m ρ c 1 1 7) (kk m ρ c 2 1) (vv m ρ c 2 1))
    ⟨ll m ρ c 2 1 5, aa m ρ c 2 1 5, ll m ρ c 2 1 6, aa m ρ c 2 1 6, ll m ρ c 2 1 7, aa m ρ c 2 1 7⟩ := by
  rw [k0_part23_eq_skeleton]
  exact reads_load 1 5 rfl rfl (reads_load 1 6 rfl rfl (reads_load 1 7 rfl rfl (reads_ret rfl)))

end Cert.KernelIdeal.Ring

end
-- ==== Proof.Ideal.Hop3.lean ====
/-
  The parts of the body that only read the queries: those of the rows of the last hop.
-/
module

public import proofs.«01_k».proof.Proof.Ideal.Access

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

theorem part26 : Reads m ρ c (onBufs (k0_part26 (F := F)) (ll m ρ c 2 0 2) (aa m ρ c 2 0 2) (ll m ρ c 2 0 3) (aa m ρ c 2 0 3) (ll m ρ c 2 0 4) (aa m ρ c 2 0 4) (ll m ρ c 2 0 5) (kk m ρ c 3 0) (vv m ρ c 3 0))
    ⟨ll m ρ c 3 0 2, aa m ρ c 3 0 2, ll m ρ c 3 0 3, aa m ρ c 3 0 3, ll m ρ c 3 0 4, aa m ρ c 3 0 4, ll m ρ c 3 0 5, pb m ρ c 3 0 5⟩ := by
  rw [k0_part26_eq_skeleton]
  exact reads_load 0 2 rfl rfl (reads_load 0 3 rfl rfl (reads_load 0 4 rfl rfl (reads_load 0 5 rfl rfl (reads_ret rfl))))

theorem part27 : Reads m ρ c (onBufs (k0_part27 (F := F)) k0_pay13 (cosT (F := F) c 3) (sinT (F := F) c 3) (aa m ρ c 2 0 5) (ll m ρ c 2 0 6) (aa m ρ c 2 0 6) (ll m ρ c 2 0 7) (aa m ρ c 2 0 7) (ll m ρ c 2 1 0) (xk m ρ c 3) (xv m ρ c 3) (kk m ρ c 3 0) (vv m ρ c 3 0) (pb m ρ c 3 0 5))
    ⟨aa m ρ c 3 0 5, ll m ρ c 3 0 6, aa m ρ c 3 0 6, ll m ρ c 3 0 7, aa m ρ c 3 0 7, kk m ρ c 3 1, vv m ρ c 3 1, pp m ρ c 3 1 0, ll m ρ c 3 1 0⟩ := by
  rw [k0_part27_eq_skeleton]
  exact reads_load 0 6 rfl rfl (reads_load 0 7 rfl rfl (reads_load 1 0 rfl rfl (reads_ret rfl)))

theorem part28 : Reads m ρ c (onBufs (k0_part28 (F := F)) (aa m ρ c 2 1 0) (ll m ρ c 2 1 1) (aa m ρ c 2 1 1) (ll m ρ c 2 1 2) (aa m ρ c 2 1 2) (ll m ρ c 2 1 3) (aa m ρ c 2 1 3) (kk m ρ c 3 1) (vv m ρ c 3 1) (pp m ρ c 3 1 0))
    ⟨aa m ρ c 3 1 0, ll m ρ c 3 1 1, aa m ρ c 3 1 1, ll m ρ c 3 1 2, aa m ρ c 3 1 2, ll m ρ c 3 1 3, aa m ρ c 3 1 3, pp m ρ c 3 1 4⟩ := by
  rw [k0_part28_eq_skeleton]
  exact reads_load 1 1 rfl rfl (reads_load 1 2 rfl rfl (reads_load 1 3 rfl rfl (reads_load 1 4 rfl rfl (reads_ret rfl))))

theorem part29 : Reads m ρ c (onBufs (k0_part29 (F := F)) (ll m ρ c 2 1 4) (aa m ρ c 2 1 4) (ll m ρ c 2 1 5) (aa m ρ c 2 1 5) (ll m ρ c 2 1 6) (aa m ρ c 2 1 6) (ll m ρ c 2 1 7) (aa m ρ c 2 1 7) (ll m ρ c 3 0 0) (kk m ρ c 3 1) (vv m ρ c 3 1) (pp m ρ c 3 1 4))
    ⟨ll m ρ c 3 1 4, aa m ρ c 3 1 4, ll m ρ c 3 1 5, aa m ρ c 3 1 5, ll m ρ c 3 1 6, aa m ρ c 3 1 6, ll m ρ c 3 1 7, aa m ρ c 3 1 7, linv m ρ c 0 0⟩ := by
  rw [k0_part29_eq_skeleton]
  exact reads_load 1 5 rfl rfl (reads_load 1 6 rfl rfl (reads_load 1 7 rfl rfl (reads_ret rfl)))

end Cert.KernelIdeal.Ring

end
-- ==== Proof.Ideal.Body.lean ====
/-
  The body on one device.
-/
module

public import proofs.«01_k».proof.Proof.Ideal.Parts
public import proofs.«01_k».proof.Proof.Ideal.Hop0
public import proofs.«01_k».proof.Proof.Ideal.Hop1
public import proofs.«01_k».proof.Proof.Ideal.Hop2
public import proofs.«01_k».proof.Proof.Ideal.Hop3

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 13 → ℕ) (c : Dev nD)

/-! ## The queries stored -/

/-- The rows of one batch. -/
abbrev bR (o0 : ℕ) (inb : ∀ a, (![o0, 0] : Fin 2 → ℕ) a + S512x1024.size a ≤ S1024x1024.size a) : Rect S1024x1024 :=
  Rect.unit (s := S1024x1024) ![o0, 0] S512x1024.size inb
theorem qq_emb (b : Fin 2) (inb) (x : S512x1024.Idx) : qq m ρ c b x = qbuf m ρ c ((bR (512 * b.val) inb).emb x) := by
  have hx0 : ((x 0 : Fin 512) : ℕ) < 512 := (x 0).isLt
  have hx1 : ((x 1 : Fin 1024) : ℕ) < 1024 := (x 1).isLt
  have hb := b.isLt
  unfold qbuf
  refine congr (congrArg (qq m ρ c) (Fin.ext ?_)) (funext fun a => ?_)
  · show b.val = (512 * b.val + 1 * ((x 0 : Fin 512) : ℕ)) / 512
    omega
  · match a with
    | ⟨0, _⟩ => exact Fin.ext (by show ((x 0 : Fin 512) : ℕ) = (512 * b.val + 1 * ((x 0 : Fin 512) : ℕ)) % 512; omega)
    | ⟨1, _⟩ => exact Fin.ext (by show ((x 1 : Fin 1024) : ℕ) = 0 + 1 * ((x 1 : Fin 1024) : ℕ); omega)
theorem mem_bR (b : Fin 2) (inb) (i : S1024x1024.Idx) : i ∈ (bR (512 * b.val) inb).set ↔ (i (0 : Fin 2) : Fin 1024).val / 512 = b.val := by
  have h1 : (i (1 : Fin 2) : Fin 1024).val < 1024 := (i (1 : Fin 2) : Fin 1024).isLt
  rw [Rect.mem_set_unit]
  constructor
  · intro H
    have a := H (0 : Fin 2)
    change 512 * b.val ≤ (i (0 : Fin 2) : Fin 1024).val ∧ (i (0 : Fin 2) : Fin 1024).val < 512 * b.val + 512 at a
    omega
  · rintro e a
    match a with
    | ⟨0, _⟩ => show 512 * b.val ≤ (i (0 : Fin 2) : Fin 1024).val ∧ (i (0 : Fin 2) : Fin 1024).val < 512 * b.val + 512; omega
    | ⟨1, _⟩ => show 0 ≤ (i (1 : Fin 2) : Fin 1024).val ∧ (i (1 : Fin 2) : Fin 1024).val < 0 + 1024; omega
/-- One batch stored. -/
abbrev putq (b : Fin 2) (inb : ∀ a, (![512 * b.val, 0] : Fin 2 → ℕ) a + S512x1024.size a ≤ S1024x1024.size a) (f : (cc0_scratch2 : Ref sig .tc).ty.Contents (Elt F)) : (cc0_scratch2 : Ref sig .tc).ty.Contents (Elt F) :=
  ((Memref.whole cc0_scratch2 : Memref sig .tc .vmem S1024x1024 .bf16).access (bR (512 * b.val) inb)).write (Elt F) f (qq m ρ c b) Finset.univ
/-- Both batches stored. -/
theorem stored_q (i0 i1) (f : (cc0_scratch2 : Ref sig .tc).ty.Contents (Elt F)) : putq m ρ c 1 i1 (putq m ρ c 0 i0 f) = qbuf m ρ c := by
  funext i
  have h0 : (i (0 : Fin 2) : Fin 1024).val < 1024 := (i (0 : Fin 2) : Fin 1024).isLt
  refine (store_fill (bR (512 * (1 : Fin 2).val) i1) (putq m ρ c 0 i0 f) (qbuf m ρ c) _ (qq_emb m ρ c 1 i1) i).trans ?_
  by_cases h : i ∈ (bR (512 * (1 : Fin 2).val) i1).set
  · rw [if_pos h]
  · rw [if_neg h]
    refine (store_fill (bR (512 * (0 : Fin 2).val) i0) f (qbuf m ρ c) _ (qq_emb m ρ c 0 i0) i).trans (if_pos ?_)
    rw [mem_bR] at h ⊢
    change ¬ (i (0 : Fin 2) : Fin 1024).val / 512 = 1 at h
    show (i (0 : Fin 2) : Fin 1024).val / 512 = 0
    omega

/-- The part before touches no buffer. -/
theorem part3' (P : sProp 𝕄) : P ⊢ Wp c (onBufs (k0_part3 (F := F)) (my c) (xcat m ρ c 0) (k0_pay6 (wq m c)) lane 2#32) (fun r => iprop(⌜r = ⟨freq (F := F), cosS (F := F), sinS (F := F), k0_pay13, cosT (F := F) c 0, sinT (F := F) c 0, xq m ρ c, rowsB 0 (xq m ρ c), k0_pay21 (xcat m ρ c 0) (k0_pay6 (wq m c)), 1#32⟩⌝ ∗ P)) := by
  rw [k0_part3_eq_skeleton]; exact wp_done c rfl
theorem part4 : iprop(∃ f, qPts (F := F) c f)
    ⊢ Wp c (onBufs (k0_part4 (F := F)) (xcat m ρ c 0) (k0_pay7 (wk m c)) (k0_pay8 (wv m c)) k0_pay13 (cosT (F := F) c 0) (sinT (F := F) c 0) (xq m ρ c) (rowsB 0 (xq m ρ c)) (k0_pay21 (xcat m ρ c 0) (k0_pay6 (wq m c))) 1#32) (fun r => iprop(⌜r = ⟨xk m ρ c 0, xv m ρ c 0, kk m ρ c 0 0, vv m ρ c 0 0, pp m ρ c 0 0 0, rsum m ρ c 0 0 0⟩⌝ ∗ qPts c (qbuf m ρ c))) := by
  rw [k0_part4_eq_skeleton]; unfold onBufs k0_part4_skel
  simp only [Prog.lift, Prog.bind_op, Prog.bind_ret, Prog.pure_eq_ret]
  have e0 : k0_pay22 (F := F) k0_pay13 (cosT (F := F) c 0) (sinT (F := F) c 0) (rowsB 0 (xq m ρ c)) (k0_pay21 (xcat m ρ c 0) (k0_pay6 (wq m c))) 1#32
      = qq m ρ c 0 := (rfl : _ = shapeCast S512x1024 (qq m ρ c 0) shapeCasts_S512x1024_S512x1024).trans (shapeCast_self _ _)
  have e1 : k0_pay23 (F := F) k0_pay13 (cosT (F := F) c 0) (sinT (F := F) c 0) (xq m ρ c)
      = qq m ρ c 1 := (rfl : _ = shapeCast S512x1024 (qq m ρ c 1) shapeCasts_S512x1024_S512x1024).trans (shapeCast_self _ _)
  rw [e0, e1]
  iintro ⟨%f, H⟩
  unfold Wp
  iapply (wp_load 𝒱₀ (c : Thread nD τ) none Set.univ (m := (Memref.whole cc0_scratch2 : Memref sig .tc .vmem S1024x1024 .bf16)) (Finset.subset_univ _)) $$ H
  iintro H
  iapply (wp_store 𝒱₀ (c : Thread nD τ) none Set.univ (m := (Memref.whole cc0_scratch2 : Memref sig .tc .vmem S1024x1024 .bf16)) (r := bR 0 inb_S1024x1024_S512x1024_0_0) (Mk := Finset.univ) (Finset.subset_univ _)) $$ H
  iintro H
  iapply (wp_load 𝒱₀ (c : Thread nD τ) none Set.univ (m := (Memref.whole cc0_scratch2 : Memref sig .tc .vmem S1024x1024 .bf16)) (Finset.subset_univ _)) $$ H
  iintro H
  iapply (wp_store 𝒱₀ (c : Thread nD τ) none Set.univ (m := (Memref.whole cc0_scratch2 : Memref sig .tc .vmem S1024x1024 .bf16)) (r := bR 512 inb_S1024x1024_S512x1024_512_0) (Mk := Finset.univ) (Finset.subset_univ _)) $$ H
  iintro H
  ihave H := (Entails.of_eq (congrArg (qPts c) (stored_q m ρ c inb_S1024x1024_S512x1024_0_0 inb_S1024x1024_S512x1024_512_0 f))) $$ H
  iapply (wp_loadQ m ρ c 0 0 rfl rfl) $$ H
  iintro H
  iapply (wp_done c rfl)
  iexact H

/-- The weight fetched last, and the result's staging buffer. -/
abbrev oPts : sProp 𝕄 := (c : Thread nD τ).loc main_arg4 ↦{fullShare} wo m c
abbrev outPts (f : (cc0_stg1_0 : Ref sig .tc).ty.Contents (Elt F)) : sProp 𝕄 := (c : Thread nD τ).loc cc0_stg1_0 ↦{fullShare} f

/-! ## The end of the body -/

/-- The last block stored. -/
theorem wp_lastQ {inb : ∀ a, (![512, 896] : Fin 2 → ℕ) a + S512x128.size a ≤ S1024x1024.size a} {r : LoadRect S1024x1024}
    {hl : (Memref.whole cc0_scratch2 : Memref sig .tc .vmem S1024x1024 .bf16).view.LoadsAt r}
    {hx : ((Memref.whole cc0_scratch2 : Memref sig .tc .vmem S1024x1024 .bf16).access (qR 512 896 inb)).Stores Finset.univ} {hm}
    (f : (cc0_scratch2 : Ref sig .tc).ty.Contents (Elt F)) {α : Type} {Q : α → sProp 𝕄} {k : PUnit → Prog (TpuEff nD τ sig (Elt F) Λ₀ .tc) α} :
    qPts c (mixC m ρ c f 15) ⊢ iprop((qPts c (cbuf m ρ c) -∗ Wp c (k ⟨⟩) Q)
      -∗ Wp c (.op (.load (Memref.whole cc0_scratch2 : Memref sig .tc .vmem S1024x1024 .bf16) r hl) fun _ =>
        .op (.store (Memref.whole cc0_scratch2 : Memref sig .tc .vmem S1024x1024 .bf16) (qR 512 896 inb) (k0_pay1 (aa m ρ c 3 1 7) (linv m ρ c 1 7)) Finset.univ hx hm) k) Q) := by
  have e : k0_pay1 (aa m ρ c 3 1 7) (linv m ρ c 1 7) = ctx m ρ c 1 7 :=
    (rfl : _ = shapeCast S512x128 (ctx m ρ c 1 7) shapeCasts_S512x128_S512x128).trans (shapeCast_self _ _)
  rw [e, ← mixC_all m ρ c f, ← mixC_succ m ρ c 1 7 15 rfl inb f]
  unfold Wp
  iintro H Hk
  iapply (wp_load 𝒱₀ (c : Thread nD τ) none Set.univ (m := (Memref.whole cc0_scratch2 : Memref sig .tc .vmem S1024x1024 .bf16))
    (r := r) (Finset.subset_univ _)) $$ H
  iintro H
  iapply (wp_store 𝒱₀ (c : Thread nD τ) none Set.univ (m := (Memref.whole cc0_scratch2 : Memref sig .tc .vmem S1024x1024 .bf16))
    (r := qR 512 896 inb) (Mk := Finset.univ) (Finset.subset_univ _)) $$ H
  iintro H
  iapply Hk
  iexact H
/-- The whole buffer read. -/
theorem wp_readQ {inb : ∀ a, (![0, 0] : Fin 2 → ℕ) a + S1024x1024.size a ≤ S1024x1024.size a}
    {hl : (Memref.whole cc0_scratch2 : Memref sig .tc .vmem S1024x1024 .bf16).view.LoadsAt (Rect.unit (s := S1024x1024) ![0, 0] S1024x1024.size inb).toLoadRect}
    (f : (cc0_scratch2 : Ref sig .tc).ty.Contents (Elt F)) {α : Type} {Q : α → sProp 𝕄} {k : (S1024x1024.Idx → Elt F .bf16) → Prog (TpuEff nD τ sig (Elt F) Λ₀ .tc) α} :
    qPts c f ⊢ iprop((qPts c f -∗ Wp c (k f) Q)
      -∗ Wp c (.op (.load (Memref.whole cc0_scratch2 : Memref sig .tc .vmem S1024x1024 .bf16) (Rect.unit (s := S1024x1024) ![0, 0] S1024x1024.size inb).toLoadRect hl) k) Q) := by
  have e : (Memref.whole cc0_scratch2 : Memref sig .tc .vmem S1024x1024 .bf16).view.readAt (Elt F) (Rect.unit (s := S1024x1024) ![0, 0] S1024x1024.size inb).toLoadRect f = f :=
    Memref.readAt_unit_zero (Elt F) cc0_scratch2 hz2 _ f
  suffices H : ∀ g, (Memref.whole cc0_scratch2 : Memref sig .tc .vmem S1024x1024 .bf16).view.readAt (Elt F) (Rect.unit (s := S1024x1024) ![0, 0] S1024x1024.size inb).toLoadRect f = g →
      qPts c f ⊢ iprop((qPts c f -∗ Wp c (k g) Q)
        -∗ Wp c (.op (.load (Memref.whole cc0_scratch2 : Memref sig .tc .vmem S1024x1024 .bf16) (Rect.unit (s := S1024x1024) ![0, 0] S1024x1024.size inb).toLoadRect hl) k) Q) from H f e
  intro g hg
  subst hg
  exact wp_load 𝒱₀ (c : Thread nD τ) none Set.univ (m := (Memref.whole cc0_scratch2 : Memref sig .tc .vmem S1024x1024 .bf16))
    (r := (Rect.unit (s := S1024x1024) ![0, 0] S1024x1024.size inb).toLoadRect) (Finset.subset_univ _)
/-- The result stored. -/
theorem wp_putOut {inb : ∀ a, (![0, 0, 0] : Fin 3 → ℕ) a + S2x512x1024.size a ≤ S2x512x1024.size a} {r : LoadRect S2x512x1024}
    {hl : (Memref.whole cc0_stg1_0 : Memref sig .tc .vmem S2x512x1024 .bf16).view.LoadsAt r} {hx hm} (w : FVec F S2x512x1024 .bf16)
    {α : Type} {Q : α → sProp 𝕄} {k : PUnit → Prog (TpuEff nD τ sig (Elt F) Λ₀ .tc) α} :
    iprop(∃ f, outPts (F := F) c f) ⊢ iprop((outPts c w -∗ Wp c (k ⟨⟩) Q)
      -∗ Wp c (.op (.load (Memref.whole cc0_stg1_0 : Memref sig .tc .vmem S2x512x1024 .bf16) r hl) fun _ =>
        .op (.store (Memref.whole cc0_stg1_0 : Memref sig .tc .vmem S2x512x1024 .bf16) (Rect.unit (s := S2x512x1024) ![0, 0, 0] S2x512x1024.size inb) w Finset.univ hx hm) k) Q) := by
  iintro ⟨%f, H⟩ Hk
  have e : ((Memref.whole cc0_stg1_0 : Memref sig .tc .vmem S2x512x1024 .bf16).access (Rect.unit (s := S2x512x1024) ![0, 0, 0] S2x512x1024.size inb)).write (Elt F) f w Finset.univ = w :=
    Memref.write_access_unit_zero_univ (Elt F) cc0_stg1_0 hz3 _ f w
  unfold Wp
  iapply (wp_load 𝒱₀ (c : Thread nD τ) none Set.univ (m := (Memref.whole cc0_stg1_0 : Memref sig .tc .vmem S2x512x1024 .bf16))
    (r := r) (Finset.subset_univ _)) $$ H
  iintro H
  iapply (wp_store 𝒱₀ (c : Thread nD τ) none Set.univ (m := (Memref.whole cc0_stg1_0 : Memref sig .tc .vmem S2x512x1024 .bf16))
    (r := Rect.unit (s := S2x512x1024) ![0, 0, 0] S2x512x1024.size inb) (Mk := Finset.univ) (Finset.subset_univ _)) $$ H
  iintro H
  iapply Hk
  iapply (Entails.of_eq (congrArg (outPts c) e)) $$ H

/-! ## The whole body -/

/-- What the body starts with. -/
def start : sProp 𝕄 :=
  iprop(inB m ρ K c ∗ (inR m ρ K c 0 (by decide) ∗ inL m ρ K c 0 (by decide)) ∗ (inR m ρ K c 1 (by decide) ∗ inL m ρ K c 1 (by decide))
    ∗ (inR m ρ K c 2 (by decide) ∗ inL m ρ K c 2 (by decide)) ∗ levAts L lv ∗ hPts m c ∗ oPts m c ∗ semVal (dcell c 14) 0)
/-- Its buffers at any contents. -/
def bufs : sProp 𝕄 :=
  iprop(((∃ f, rPts 0 (by decide) c fullShare f) ∗ rFree (F := F) c) ∗ ((∃ f, lPts 0 (by decide) c fullShare f) ∗ lFree (F := F) c)
    ∗ (∃ f, qPts (F := F) c f) ∗ sPts (F := F) c)
/-- What it ends with. -/
def finish : sProp 𝕄 :=
  iprop(dnB m ρ K c ∗ (dnR m ρ K c 0 (by decide) ∗ dnL m ρ K c 0 (by decide)) ∗ (dnR m ρ K c 1 (by decide) ∗ dnL m ρ K c 1 (by decide))
    ∗ (dnR m ρ K c 2 (by decide) ∗ dnL m ρ K c 2 (by decide)) ∗ hPts m c ∗ oPts m c ∗ semVal (dcell c 14) 0)

theorem the_body : iprop(start m ρ K c ∗ bufs (F := F) c ∗ xPts m ρ c ∗ (∃ f, outPts (F := F) c f) ∗ ow (F := F) c 8)
    ⊢ Wp c (onBufs (cc0__body (F := F))) (fun _ => iprop(finish m ρ K c ∗ bufs (F := F) c ∗ xPts m ρ c ∗ outPts c (outAt m ρ c) ∗ ow c 0)) := by
  rw [cc0__body_eq_skeleton]; unfold onBufs cc0__body_skel start bufs
  iintro ⟨⟨HB, HI0, HI1, HI2, #HL, Hh, Hw, Hv⟩, ⟨⟨HrA, HrF⟩, ⟨HlA, HlF⟩, Hq, Hs⟩, Hx, Ho, HO⟩
  iapply (wp_call c (part1 m ρ K c)) $$ [HB HrA HrF HlA HlF Hx HO]
  · isplitl [HB]; · iexact HB
    isplitl [HrF]; · iexact HrF
    isplitl [HlF]; · iexact HlF
    isplitl [HrA]; · iexact HrA
    isplitl [HlA]; · iexact HlA
    isplitl [Hx]; · iexact Hx
    iexact HO
  iintro ⟨HB, HrF, HlF, HsR, HsL, Hx, HO⟩
  unfold rFree lFree
  icases HrF with ⟨Hr1, Hr2, Hr3⟩
  icases HlF with ⟨Hl1, Hl2, Hl3⟩
  iapply (wp_call c (part2 m ρ K c _ _)) $$ [HI0 HsR HsL Hr1 Hl1 Hh Hs Hv HO]
  · isplitl [HI0 HsR HsL Hr1 Hl1]
    · isplitl [HI0]; · iexact HI0
      isplitl [HsR HsL]
      · isplitl [HsR]; · iexact HsR
        iexact HsL
      isplitl [Hr1]; · iexact Hr1
      iexact Hl1
    isplitl [Hh]; · iexact Hh
    isplitl [Hs Hv]
    · isplitl [Hs]; · iexact Hs
      iexact Hv
    isplitr; · iexact HL
    iexact HO
  iintro ⟨H0, Hh, HF, HO⟩
  iapply (wp_call c (part3' m ρ c _)) $$ Hq
  iintro Hq
  iapply (wp_call c (part4 m ρ c)) $$ Hq
  iintro Hq
  iapply (wp_call c (part5 m ρ c)) $$ Hq
  iintro Hq
  iapply (wp_call c (part6 m ρ c)) $$ Hq
  iintro Hq
  iapply (wp_call c (part7 m ρ c)) $$ Hq
  iintro Hq
  iapply (wp_call c (part8 m ρ c)) $$ Hq
  iintro Hq
  iapply (wp_call c (part9 m ρ K c (lftW c) (rgtW c))) $$ [H0 HO]
  · isplitl [H0]; · iexact H0
    iexact HO
  iintro ⟨H0, HO⟩
  unfold hopped
  icases H0 with ⟨HdR0, HdL0, HR0, HL0, HsR, HsL⟩
  iapply (wp_call c (part10 m ρ K c (lftW c) (rgtW c))) $$ [HI1 HsR HsL Hr2 Hl2 HO]
  · isplitr [HO]
    · isplitl [HI1]; · iexact HI1
      isplitl [HsR HsL]
      · isplitl [HsR]; · iexact HsR
        iexact HsL
      isplitl [Hr2]; · iexact Hr2
      iexact Hl2
    iexact HO
  iintro ⟨H0, HO⟩
  iapply (wp_call c (part11 m ρ c)) $$ Hq
  iintro Hq
  iapply (wp_call c (part12 m ρ c)) $$ Hq
  iintro Hq
  iapply (wp_call c (part13 m ρ c)) $$ Hq
  iintro Hq
  iapply (wp_call c (part14 m ρ c)) $$ Hq
  iintro Hq
  iapply (wp_call c (part15 m ρ c)) $$ Hq
  iintro Hq
  iapply (wp_call c (part16 m ρ K c (lftW c) (rgtW c))) $$ [Hq H0 HO]
  · isplitl [Hq]; · iexact Hq
    isplitl [H0]; · iexact H0
    iexact HO
  iintro ⟨Hq, H0⟩
  iapply (wp_call c (part17 m ρ K c (lftW c) (rgtW c))) $$ H0
  iintro ⟨H0, HO⟩
  unfold hopped
  icases H0 with ⟨HdR1, HdL1, HR1, HL1, HsR, HsL⟩
  iapply (wp_call c (part18 m ρ K c (lftW c) (rgtW c))) $$ [HI2 HsR HsL Hr3 Hl3 HO]
  · isplitr [HO]
    · isplitl [HI2]; · iexact HI2
      isplitl [HsR HsL]
      · isplitl [HsR]; · iexact HsR
        iexact HsL
      isplitl [Hr3]; · iexact Hr3
      iexact Hl3
    iexact HO
  iintro ⟨H0, HO⟩
  iapply (wp_call c (part19 m ρ c)) $$ Hq
  iintro Hq
  iapply (wp_call c (part20 m ρ c)) $$ Hq
  iintro Hq
  iapply (wp_call c (part21 m ρ c)) $$ Hq
  iintro Hq
  iapply (wp_call c (part22 m ρ c)) $$ Hq
  iintro Hq
  iapply (wp_call c (part23 m ρ c)) $$ Hq
  iintro Hq
  iapply (wp_call c (part24 m ρ K c (lftW c) (rgtW c))) $$ [H0 HO]
  · isplitl [H0]; · iexact H0
    iexact HO
  iintro ⟨H0, HO⟩
  unfold hopped
  icases H0 with ⟨HdR2, HdL2, HR2, HL2, HsR, HsL⟩
  iapply (wp_call c (part25 m ρ c (lftW c) (rgtW c))) $$ [Hq HsR HsL]
  · isplitl [Hq]; · iexact Hq
    isplitl [HsR]; · iexact HsR
    iexact HsL
  iintro ⟨Hq, HsR, HsL⟩
  iapply (wp_call c (part26 m ρ c)) $$ Hq
  iintro Hq
  iapply (wp_call c (part27 m ρ c)) $$ Hq
  iintro Hq
  iapply (wp_call c (part28 m ρ c)) $$ Hq
  iintro Hq
  iapply (wp_call c (part29 m ρ c)) $$ Hq
  iintro Hq
  ihave Hq := (Entails.of_eq (congrArg (qPts c) (mixC_zero m ρ c (qbuf m ρ c)).symm)) $$ Hq
  iapply (wp_call c (part30 m ρ c _)) $$ Hq
  iintro Hq
  iapply (wp_call c (part31 m ρ c _)) $$ Hq
  iintro Hq
  iapply (wp_call c (part32 m ρ c _)) $$ Hq
  iintro Hq
  simp only [Prog.lift, Prog.bind_op, Prog.bind_ret, Prog.pure_eq_ret]
  iapply (wp_lastQ m ρ c _) $$ Hq
  iintro Hq
  iapply (wp_weight c (Memref.whole main_arg4 : Memref sig .tc .hbm S1024x1024 .f32) (wo m c) (wo m c) _ (whole_pts c main_arg4 _) rfl 0) $$ [Hw HF HO]
  · isplitl [Hw]; · iexact Hw
    isplitl [HF]; · iexact HF
    isplitr; · iexact HL
    iexact HO
  iintro ⟨Hw, ⟨Hs, Hv⟩, HO⟩
  iapply (wp_readQ c _) $$ Hq
  iintro Hq
  iapply (wp_putOut c (outAt m ρ c)) $$ Ho
  iintro Ho
  unfold Wp
  rw [wp_ret]
  imodintro
  unfold finish
  isplitl [HB HdR0 HdL0 HdR1 HdL1 HdR2 HdL2 Hh Hw Hv]
  · isplitl [HB]; · iexact HB
    isplitl [HdR0 HdL0]
    · isplitl [HdR0]; · iexact HdR0
      iexact HdL0
    isplitl [HdR1 HdL1]
    · isplitl [HdR1]; · iexact HdR1
      iexact HdL1
    isplitl [HdR2 HdL2]
    · isplitl [HdR2]; · iexact HdR2
      iexact HdL2
    isplitl [Hh]; · iexact Hh
    isplitl [Hw]; · iexact Hw
    iexact Hv
  isplitl [HR0 HR1 HR2 HsR HL0 HL1 HL2 HsL Hq Hs]
  · isplitl [HR0 HR1 HR2 HsR]
    · isplitl [HR0]; · iexists _; iexact HR0
      isplitl [HR1]; · iexists _; iexact HR1
      isplitl [HR2]; · iexists _; iexact HR2
      iexists _; iexact HsR
    isplitl [HL0 HL1 HL2 HsL]
    · isplitl [HL0]; · iexists _; iexact HL0
      isplitl [HL1]; · iexists _; iexact HL1
      isplitl [HL2]; · iexists _; iexact HL2
      iexists _; iexact HsL
    isplitl [Hq]; · iexists _; iexact Hq
    iexact Hs
  isplitl [Hx]; · iexact Hx
  isplitl [Ho]; · iexact Ho
  iexact HO

end Cert.KernelIdeal.Ring

end
-- ==== Proof.Ideal.Deal.lean ====
module

public import proofs.«01_k».proof.Proof.Ideal.Body

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem csem_injective : Function.Injective csem := by
  intro k k' h
  revert k k'
  decide
theorem kcell_injective : Function.Injective (kcell : Dev nD × Fin 13 → GSem nD τ sig) := by
  rintro ⟨c, k⟩ ⟨c', k'⟩ h
  exact Prod.ext (congrArg (fun g : GSem nD τ sig => g.1.1) h) (csem_injective (congrArg Prod.snd h))
/-- The cells of all the devices. -/
def ringCells : Finset (GSem nD τ sig) := Finset.univ.map ⟨kcell, kcell_injective⟩

/-- The duties of a device's cells: number 0 and number 1 are the barrier's two, number `j + 1` the one of cell `j`. -/
def tokK (j : Fin 14) : Fin 13 := ⟨j.val - 1, by have := j.isLt; omega⟩
def tokB (j : Fin 14) : Bool := decide (j.val = 1)
def tokOf (cj : Dev nD × Fin 14) : GSem nD τ sig × ℕ × Bool := (kcell (cj.1, tokK cj.2), 0, tokB cj.2)
theorem tok_inj : ∀ j j' : Fin 14, tokK j = tokK j' → tokB j = tokB j' → j = j' := by decide
theorem tokOf_injective : Function.Injective (tokOf : Dev nD × Fin 14 → GSem nD τ sig × ℕ × Bool) := by
  rintro ⟨c, j⟩ ⟨c', j'⟩ h
  have h1 := kcell_injective (congrArg Prod.fst h)
  exact Prod.ext (show c = c' from congrArg (fun x : Dev nD × Fin 13 => x.1) h1) (tok_inj j j' (congrArg (fun x : Dev nD × Fin 13 => x.2) h1) (congrArg (fun x : GSem nD τ sig × ℕ × Bool => x.2.2) h))
def ringToks : Finset (GSem nD τ sig × ℕ × Bool) := Finset.univ.map ⟨tokOf, tokOf_injective⟩

/-- The ghost state at launch. -/
def u₀ : UU := (initOf (Pipeline.cells cfgs cellOf_inj) (Pipeline.launchToks cfgs cellOf_inj), initOf ringCells ringToks, 1)

/-- The tokens of the duties of device `c`'s own cells. -/
def toks (c : Dev nD) : sProp 𝕄 :=
  iprop(dutyTok ER (barCell c) 0 false ∗ dutyTok ER (barCell c) 0 true
    ∗ dutyTok ER (dcell c 2) 0 false ∗ dutyTok ER (dcell c 3) 0 false ∗ dutyTok ER (dcell c 4) 0 false
    ∗ dutyTok ER (dcell c 5) 0 false ∗ dutyTok ER (dcell c 6) 0 false ∗ dutyTok ER (dcell c 7) 0 false
    ∗ dutyTok ER (dcell c 8) 0 false ∗ dutyTok ER (dcell c 9) 0 false ∗ dutyTok ER (dcell c 10) 0 false
    ∗ dutyTok ER (dcell c 11) 0 false ∗ dutyTok ER (dcell c 12) 0 false ∗ dutyTok ER (dcell c 13) 0 false)
/-- The tokens of the duties that device `c` pays. -/
def payToks (c : Dev nD) : sProp 𝕄 :=
  iprop(dutyTok ER (barCell (nxt c)) 0 false ∗ dutyTok ER (barCell (prv c)) 0 true
    ∗ dutyTok ER (dcell c 2) 0 false ∗ dutyTok ER (dcell c 3) 0 false ∗ dutyTok ER (dcell c 4) 0 false
    ∗ dutyTok ER (dcell (nxt c) 5) 0 false ∗ dutyTok ER (dcell (nxt c) 6) 0 false ∗ dutyTok ER (dcell (nxt c) 7) 0 false
    ∗ dutyTok ER (dcell c 8) 0 false ∗ dutyTok ER (dcell c 9) 0 false ∗ dutyTok ER (dcell c 10) 0 false
    ∗ dutyTok ER (dcell (prv c) 11) 0 false ∗ dutyTok ER (dcell (prv c) 12) 0 false ∗ dutyTok ER (dcell (prv c) 13) 0 false)

theorem duties_list (c : Dev nD) (T : GSem nD τ sig × ℕ × Bool → sProp 𝕄) : (bigSep Finset.univ fun j : Fin 14 => T (tokOf (c, j)))
    = iprop(T (barCell c, 0, false) ∗ T (barCell c, 0, true) ∗ T (dcell c 2, 0, false) ∗ T (dcell c 3, 0, false) ∗ T (dcell c 4, 0, false)
      ∗ T (dcell c 5, 0, false) ∗ T (dcell c 6, 0, false) ∗ T (dcell c 7, 0, false) ∗ T (dcell c 8, 0, false) ∗ T (dcell c 9, 0, false)
      ∗ T (dcell c 10, 0, false) ∗ T (dcell c 11, 0, false) ∗ T (dcell c 12, 0, false) ∗ T (dcell c 13, 0, false)) :=
  bigSep_univ_eq_bigSepL ([0, 1, 2, 3, 4, 5, 6, 7, 8, 9, 10, 11, 12, 13] : List (Fin 14)) (by decide) (by decide) fun j => T (tokOf (c, j))

/-- Every token goes to the device that pays the duty. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (dcell c 5) 0 false : sProp 𝕄)),
    bigSep_univ_equiv ring (fun c : Dev nD => (dutyTok ER (dcell c 6) 0 false : sProp 𝕄)),
    bigSep_univ_equiv ring (fun c : Dev nD => (dutyTok ER (dcell c 7) 0 false : sProp 𝕄)),
    bigSep_univ_equiv ring.symm (fun c : Dev nD => (dutyTok ER (dcell c 11) 0 false : sProp 𝕄)),
    bigSep_univ_equiv ring.symm (fun c : Dev nD => (dutyTok ER (dcell c 12) 0 false : sProp 𝕄)),
    bigSep_univ_equiv ring.symm (fun c : Dev nD => (dutyTok ER (dcell c 13) 0 false : sProp 𝕄))]
  exact Entails.of_eq rfl

/-! ## The invariants -/

/-- The cells of a device one by one. -/
theorem cells_eq (c : Dev nD) (Φ : GSem nD τ sig → sProp 𝕄) : (bigSep Finset.univ fun k : Fin 13 => Φ (kcell (c, k)))
    = iprop(Φ (barCell c) ∗ Φ (dcell c 2) ∗ Φ (dcell c 3) ∗ Φ (dcell c 4) ∗ Φ (dcell c 5) ∗ Φ (dcell c 6) ∗ Φ (dcell c 7)
      ∗ Φ (dcell c 8) ∗ Φ (dcell c 9) ∗ Φ (dcell c 10) ∗ Φ (dcell c 11) ∗ Φ (dcell c 12) ∗ Φ (dcell c 13)) :=
  bigSep_univ_eq_bigSepL [0, 1, 2, 3, 4, 5, 6, 7, 8, 9, 10, 11, 12] (by decide) (by decide) _

/-- What the launch deals to device `c`. -/
def G (c : Dev nD) : sProp 𝕄 :=
  iprop((bigSep Finset.univ fun k : Fin 13 => roundState ER (rd m ρ) (kcell (c, k)) 0)
    ∗ (bigSep Finset.univ fun k : Fin 13 => atPos ER (kcell (c, k)) 0 ∅ 0) ∗ (bigSep Finset.univ fun k : Fin 13 => reached ER (kcell (c, k)) 0) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => duties_list c fun x => dutyTok ER x.1 x.2.1 x.2.2
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

abbrev ownS (c : Dev nD) : sProp 𝕄 := Pipeline.ownSems0 (Ix := Unit) (Name := ℕ) (U := UU) (Lvl := ℕ) (Val := Elt F) (τ := τ) osem c

/-- The kernel's own semaphores: the ring's twelve and the one of the copies inside the device. -/
theorem ownSems0_eq (c : Dev nD) : (ownS c : sProp 𝕄)
    = iprop(semVal (dcell c 2) 0 ∗ semVal (dcell c 3) 0 ∗ semVal (dcell c 4) 0 ∗ semVal (dcell c 5) 0 ∗ semVal (dcell c 6) 0 ∗ semVal (dcell c 7) 0
      ∗ semVal (dcell c 8) 0 ∗ semVal (dcell c 9) 0 ∗ semVal (dcell c 10) 0 ∗ semVal (dcell c 11) 0 ∗ semVal (dcell c 12) 0 ∗ semVal (dcell c 13) 0
      ∗ semVal (dcell c 14) 0) :=
  (Pipeline.ownSems0_eq_of_list c osem [0, 1, 2, 3, 4, 5, 6, 7, 8, 9, 10, 11, 12] (by decide) (by decide)).trans rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) : iprop(ownS (F := F) c ∗ unscopedSems0 c)
    ⊢ iprop((bigSep Finset.univ fun k : Fin 13 => (semVal (kcell (c, k)) 0 : sProp 𝕄)) ∗ semVal (dcell c 14) 0) := by
  rw [ownSems0_eq, unscopedSems0_eq, cells_eq c fun g => semVal g 0]
  iintro ⟨⟨H2, H3, H4, H5, H6, H7, H8, H9, H10, H11, H12, H13, H14⟩, HB⟩
  isplitr [H14]
  · isplitl [HB]; · iexact HB
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact H14

theorem core_alloc (c : Dev nD) : iprop(ownS (F := F) c ∗ unscopedSems0 c ∗ G m ρ c)
    ⊢ |={Set.univ}=> iprop((bigSep Finset.univ fun k => iprop(∃ κ : ℕ, cellInv ER (rd m ρ) κ (kcell (c, k))))
        ∗ (bigSep Finset.univ fun k : Fin 13 => atPos ER (kcell (c, k)) 0 ∅ 0) ∗ (bigSep Finset.univ fun k : Fin 13 => reached ER (kcell (c, k)) 0)
        ∗ toks c ∗ semVal (dcell c 14) 0) := by
  unfold G
  iintro ⟨Hos, Hus, Hst, Hat, Hr, Htok⟩
  ihave Hv := (sems0_eq (F := F) c) $$ [Hos Hus]
  · isplitl [Hos] <;> iassumption
  icases Hv with ⟨Hv, Hw⟩
  imod (show iprop((bigSep Finset.univ fun k : Fin 13 => semVal (kcell (c, k)) 0) ∗ bigSep Finset.univ fun k : Fin 13 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hw

/-- The invariants of all the cells, each at its first round: known to every device. -/
def records (K : Dev nD × Fin 13 → ℕ) : sProp 𝕄 :=
  iprop((bigSep Finset.univ fun ck : Dev nD × Fin 13 => cellInv ER (rd m ρ) (K ck) (kcell ck))
    ∗ bigSep Finset.univ fun ck : Dev nD × Fin 13 => reached ER (kcell ck) 0)

instance records_persistent (K : Dev nD × Fin 13 → ℕ) : BI.Persistent (records (F := F) m ρ K) := by unfold records; infer_instance

theorem inv_at (K : Dev nD × Fin 13 → ℕ) (ck : Dev nD × Fin 13) (g : GSem nD τ sig) (h : kcell ck = g) :
    (records m ρ K : sProp 𝕄) ⊢ cellInv ER (rd m ρ) (K ck) g := by
  subst h
  exact (sep_mono_left (bigSep_elim (Finset.mem_univ ck))).trans (by iintro ⟨H, -⟩; iexact H)
theorem reached_at (K : Dev nD × Fin 13 → ℕ) (ck : Dev nD × Fin 13) (g : GSem nD τ sig) (h : kcell ck = g) :
    (records m ρ K : sProp 𝕄) ⊢ reached ER g 0 := by
  subst h
  exact (sep_mono_right (bigSep_elim (Finset.mem_univ ck))).trans (by iintro ⟨-, H⟩; iexact H)

/-- A cell of a DMA semaphore in the list of a device's cells. -/
theorem kcell_dma (c : Dev nD) (k q : ℕ) (hk : k < 13) (hq : q < 15) (h0 : k ≠ 0) (e : q = k + 1) : kcell (c, ⟨k, hk⟩) = dcell c q hq := by
  subst e; exact congrArg (Prod.mk (c : Thread nD τ)) (if_neg h0)

/-- The cells of a hop, out of the records. -/
theorem rec_iR (K : Dev nD × Fin 13 → ℕ) (c : Dev nD) (a : ℕ) (ha : a < 3) : iprop(records m ρ K ∗ levAts L lv) ⊢ iR (F := F) m ρ K c a ha := by
  unfold iR
  iintro ⟨#H, #HL⟩
  isplitr; · iapply (inv_at m ρ K _ _ (kcell_dma c (1 + a) (2 + a) _ _ (by omega) (by omega))) $$ H
  isplitr; · iapply (inv_at m ρ K _ _ (kcell_dma c (4 + a) (5 + a) _ _ (by omega) (by omega))) $$ H
  isplitr; · iapply (inv_at m ρ K _ _ (kcell_dma (nxt c) (4 + a) (5 + a) _ _ (by omega) (by omega))) $$ H
  isplitr; · iapply (reached_at m ρ K _ _ (kcell_dma c (1 + a) (2 + a) (by omega) _ (by omega) (by omega))) $$ H
  isplitr; · iapply (reached_at m ρ K _ _ (kcell_dma (nxt c) (4 + a) (5 + a) (by omega) _ (by omega) (by omega))) $$ H
  iexact HL
theorem rec_iL (K : Dev nD × Fin 13 → ℕ) (c : Dev nD) (a : ℕ) (ha : a < 3) : iprop(records m ρ K ∗ levAts L lv) ⊢ iL (F := F) m ρ K c a ha := by
  unfold iL
  iintro ⟨#H, #HL⟩
  isplitr; · iapply (inv_at m ρ K _ _ (kcell_dma c (7 + a) (8 + a) _ _ (by omega) (by omega))) $$ H
  isplitr; · iapply (inv_at m ρ K _ _ (kcell_dma c (10 + a) (11 + a) _ _ (by omega) (by omega))) $$ H
  isplitr; · iapply (inv_at m ρ K _ _ (kcell_dma (prv c) (10 + a) (11 + a) _ _ (by omega) (by omega))) $$ H
  isplitr; · iapply (reached_at m ρ K _ _ (kcell_dma c (7 + a) (8 + a) (by omega) _ (by omega) (by omega))) $$ H
  isplitr; · iapply (reached_at m ρ K _ _ (kcell_dma (prv c) (10 + a) (11 + a) (by omega) _ (by omega) (by omega))) $$ H
  iexact HL

/-- What stays with device `c` alone. -/
def linear (c : Dev nD) : sProp 𝕄 :=
  iprop((bigSep Finset.univ fun k : Fin 13 => atPos ER (kcell (c, k)) 0 ∅ 0) ∗ payToks c ∗ semVal (dcell c 14) 0)
/-- What the device starts with, once every cell has its invariant. -/
def G' (c : Dev nD) : sProp 𝕄 := iprop(∃ K, records m ρ K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
        ∗ (bigSep Finset.univ fun k : Fin 13 => atPos ER (kcell (c, k)) 0 ∅ 0) ∗ (bigSep Finset.univ fun k : Fin 13 => reached ER (kcell (c, k)) 0)
        ∗ toks c ∗ semVal (dcell c 14) 0) : sProp 𝕄)
      ⊢ bigSep Finset.univ (G' m ρ) := by
  simp only [bigSep_sep']
  rw [← bigSep_univ_prod (fun ck : Dev nD × Fin 13 => iprop(∃ κ : ℕ, cellInv ER (rd m ρ) κ (kcell ck))),
    ← bigSep_univ_prod (fun ck : Dev nD × Fin 13 => (reached ER (kcell ck) 0 : sProp 𝕄))]
  iintro ⟨HI, Hat, #HR, Htok, Hw⟩
  ihave HK := (BI.bigSep_exists_pi Finset.univ (fun (ck : Dev nD × Fin 13) (κ : ℕ) => (cellInv ER (rd m ρ) κ (kcell ck) : sProp 𝕄))) $$ HI
  icases HK with ⟨%K, #HI⟩
  ihave Htk := (toks_around (F := F)) $$ Htok
  iapply (with_persistent (R := records m ρ K) (Φ := linear) (Ψ := G' m ρ) (S := Finset.univ) fun c _ => by
    unfold G'
    iintro H
    iexists K
    iexact H)
  isplitr
  · unfold records; isplitl; · iexact HI
    iexact HR
  · unfold linear
    simp only [bigSep_sep']
    isplitl [Hat]; · iexact Hat
    isplitl [Htk]; · iexact Htk
    iexact Hw

/-- The step from the semaphores of all the devices to their invariants. -/
theorem glob : (bigSep Finset.univ fun c => iprop(ownS (F := F) c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The credits -/

/-- What all the devices owe one cell of device `c`. -/
theorem tally_tc (x c : Dev nD) (sm sm' : SemLoc sig) (n : ℕ) :
    (tallyAt ((x : Thread nD τ), sm') () n : CellTallies nD τ sig Unit) ((c : Thread nD τ), sm) () = if sm = sm' ∧ c = x then n else 0 := by
  rw [tallyAt_apply]
  refine if_congr ⟨fun h => ⟨congrArg Prod.snd h.1, congrArg (fun g : GSem nD τ sig => g.1.1) h.1⟩, fun h => ⟨?_, rfl⟩⟩ rfl rfl
  rw [h.1, h.2]

theorem owed_eq (d : Dev nD) : owed d 8 = 0 + tallyAt (dcell (prv d) 13) () N + tallyAt (dcell (nxt d) 7) () N + tallyAt (dcell (prv d) 12) () N
    + tallyAt (dcell (nxt d) 6) () N + tallyAt (dcell (prv d) 11) () N + tallyAt (dcell (nxt d) 5) () N
    + tallyAt (barCell (nxt d)) () 1 + tallyAt (barCell (prv d)) () 1 := rfl

/-- Everything device `d` owes, read at a cell of device `c`. -/
theorem owed_at (d c : Dev nD) (sm : SemLoc sig) : owed d 8 ((c : Thread nD τ), sm) ()
    = (if sm = .dma (⟨13, by decide⟩ : DmaSem sig) ∧ c = prv d then N else 0) + (if sm = .dma (⟨7, by decide⟩ : DmaSem sig) ∧ c = nxt d then N else 0)
      + (if sm = .dma (⟨12, by decide⟩ : DmaSem sig) ∧ c = prv d then N else 0) + (if sm = .dma (⟨6, by decide⟩ : DmaSem sig) ∧ c = nxt d then N else 0)
      + (if sm = .dma (⟨11, by decide⟩ : DmaSem sig) ∧ c = prv d then N else 0) + (if sm = .dma (⟨5, by decide⟩ : DmaSem sig) ∧ c = nxt d then N else 0)
      + (if sm = .reg barS ∧ c = nxt d then 1 else 0) + (if sm = .reg barS ∧ c = prv d then 1 else 0) := by
  rw [owed_eq]
  simp only [Pi.add_apply, Finsupp.add_apply, tally_tc, Pi.zero_apply, Finsupp.zero_apply, Nat.zero_add]

theorem sum_prv (c : Dev nD) (n : ℕ) : (∑ d : Dev nD, if c = prv d then n else 0) = n := by
  rw [Finset.sum_congr rfl fun d _ => if_congr (P := c = prv d) (Q := d = nxt c) ⟨fun h => by rw [h, nxt_prv], fun h => by rw [h, prv_nxt]⟩ rfl rfl,
    Finset.sum_ite_eq' Finset.univ (nxt c) fun _ => n, if_pos (Finset.mem_univ _)]
theorem sum_nxt (c : Dev nD) (n : ℕ) : (∑ d : Dev nD, if c = nxt d then n else 0) = n := by
  rw [Finset.sum_congr rfl fun d _ => if_congr (P := c = nxt d) (Q := d = prv c) ⟨fun h => by rw [h, prv_nxt], fun h => by rw [h, nxt_prv]⟩ rfl rfl,
    Finset.sum_ite_eq' Finset.univ (prv c) fun _ => n, if_pos (Finset.mem_univ _)]

/-- The credit a cell is launched with, from what the devices owe it. -/
theorem cred_of (c : Dev nD) (sm : SemLoc sig) (n : ℕ) (h : (∑ d : Dev nD, owed d 8 ((c : Thread nD τ), sm) ()) = n) :
    (cred (tallyOn ((c : Thread nD τ), sm) (launchCredit (Pipeline.owing fun d : Dev nD => owed d 8) 0 ((c : Thread nD τ), sm))) : sProp 𝕄)
      = cred (tallyAt ((c : Thread nD τ), sm) () n) := by
  have e : launchCredit (Pipeline.owing fun d : Dev nD => owed d 8) 0 ((c : Thread nD τ), sm) = Finsupp.single () n := by
    refine Finsupp.ext fun u => ?_
    cases u
    rw [Pipeline.launchCredit_owing, h, Finsupp.single_eq_same]
  rw [e]; rfl

theorem sum_bar (c : Dev nD) : (∑ d : Dev nD, owed d 8 ((c : Thread nD τ), .reg barS) ()) = 2 := by
  rw [Finset.sum_congr rfl fun d _ => (owed_at d c (.reg barS)).trans (show _ = (if c = nxt d then 1 else 0) + (if c = prv d then 1 else 0) by simp),
    Finset.sum_add_distrib, sum_nxt, sum_prv]
theorem sum_R (c : Dev nD) (a : ℕ) (ha : a < 3) (hk : 5 + a < 15) : (∑ d : Dev nD, owed d 8 (dcell c (5 + a) hk) ()) = N := by
  rw [Finset.sum_congr rfl fun d _ => (owed_at d c (.dma (⟨5 + a, hk⟩ : DmaSem sig))).trans (show _ = (if c = nxt d then N else 0) by
    match a with
    | 0 => simp
    | 1 => simp
    | 2 => simp)]
  exact sum_nxt c N
theorem sum_L (c : Dev nD) (a : ℕ) (ha : a < 3) (hk : 11 + a < 15) : (∑ d : Dev nD, owed d 8 (dcell c (11 + a) hk) ()) = N := by
  rw [Finset.sum_congr rfl fun d _ => (owed_at d c (.dma (⟨11 + a, hk⟩ : DmaSem sig))).trans (show _ = (if c = prv d then N else 0) by
    match a with
    | 0 => simp
    | 1 => simp
    | 2 => simp)]
  exact sum_prv c N

/-- The cells a device waits on with credit from the launch. -/
abbrev credSems : List (SemLoc sig) := [.reg barS, .dma (⟨5, by decide⟩ : DmaSem sig), .dma (⟨6, by decide⟩ : DmaSem sig), .dma (⟨7, by decide⟩ : DmaSem sig),
  .dma (⟨11, by decide⟩ : DmaSem sig), .dma (⟨12, by decide⟩ : DmaSem sig), .dma (⟨13, by decide⟩ : DmaSem sig)]
theorem creds_list (Φ : SemLoc sig → sProp 𝕄) : bigSep Finset.univ Φ ⊢ iprop(Φ (.reg barS) ∗ Φ (.dma (⟨5, by decide⟩ : DmaSem sig)) ∗ Φ (.dma (⟨6, by decide⟩ : DmaSem sig))
    ∗ Φ (.dma (⟨7, by decide⟩ : DmaSem sig)) ∗ Φ (.dma (⟨11, by decide⟩ : DmaSem sig)) ∗ Φ (.dma (⟨12, by decide⟩ : DmaSem sig)) ∗ Φ (.dma (⟨13, by decide⟩ : DmaSem sig))) :=
  (bigSep_subset (Finset.subset_univ credSems.toFinset)).trans (Entails.of_eq (bigSep_eq_bigSepL_of_eq credSems rfl (by decide) Φ))

/-- The credits of device `c`. -/
theorem creds (c : Dev nD) : (Pipeline.launchCred (fun d : Dev nD => owed d 8) c : sProp 𝕄)
    ⊢ iprop(cred (tallyAt (barCell c) () 2) ∗ (cred (tallyAt (dcell c 5) () N) ∗ cred (tallyAt (dcell c 6) () N) ∗ cred (tallyAt (dcell c 7) () N))
      ∗ (cred (tallyAt (dcell c 11) () N) ∗ cred (tallyAt (dcell c 12) () N) ∗ cred (tallyAt (dcell c 13) () N))) := by
  unfold Pipeline.launchCred
  refine (creds_list _).trans ?_
  iintro ⟨HB, H5, H6, H7, H11, H12, H13⟩
  isplitl [HB]; · iapply (Entails.of_eq (cred_of c _ 2 (sum_bar c))) $$ HB
  isplitl [H5 H6 H7]
  · isplitl [H5]; · iapply (Entails.of_eq (cred_of c _ N (sum_R c 0 (of_decide_eq_true rfl) (of_decide_eq_true rfl : 5 + 0 < 15)))) $$ H5
    isplitl [H6]; · iapply (Entails.of_eq (cred_of c _ N (sum_R c 1 (of_decide_eq_true rfl) (of_decide_eq_true rfl : 5 + 1 < 15)))) $$ H6
    iapply (Entails.of_eq (cred_of c _ N (sum_R c 2 (of_decide_eq_true rfl) (of_decide_eq_true rfl : 5 + 2 < 15)))) $$ H7
  · isplitl [H11]; · iapply (Entails.of_eq (cred_of c _ N (sum_L c 0 (of_decide_eq_true rfl) (of_decide_eq_true rfl : 11 + 0 < 15)))) $$ H11
    isplitl [H12]; · iapply (Entails.of_eq (cred_of c _ N (sum_L c 1 (of_decide_eq_true rfl) (of_decide_eq_true rfl : 11 + 1 < 15)))) $$ H12
    iapply (Entails.of_eq (cred_of c _ N (sum_L c 2 (of_decide_eq_true rfl) (of_decide_eq_true rfl : 11 + 2 < 15)))) $$ H13

/-! ## What a device starts its kernel with -/

theorem start_of (K : Dev nD × Fin 13 → ℕ) (c : Dev nD) :
    iprop(records m ρ K ∗ linear c ∗ levAts L lv ∗ Pipeline.launchCred (fun d : Dev nD => owed d 8) c ∗ hPts m c ∗ oPts m c) ⊢ start (F := F) m ρ K c := by
  unfold linear payToks start inB inR inL
  rw [cells_eq c fun g => atPos ER g 0 ∅ 0]
  iintro ⟨#HR, ⟨⟨aB, a2, a3, a4, a5, a6, a7, a8, a9, a10, a11, a12, a13⟩, ⟨tF, tT, t2, t3, t4, t5, t6, t7, t8, t9, t10, t11, t12, t13⟩, Hw⟩, #HL, Hc, Hh, Ho⟩
  ihave Hc := (creds (F := F) c) $$ Hc
  icases Hc with ⟨cB, ⟨c5, c6, c7⟩, c11, c12, c13⟩
  isplitl [aB tF tT cB]
  · isplitr; · iapply (inv_at m ρ K (c, 0) _ rfl) $$ HR
    isplitr; · iapply (inv_at m ρ K (nxt c, 0) _ rfl) $$ HR
    isplitr; · iapply (inv_at m ρ K (prv c, 0) _ rfl) $$ HR
    isplitr; · iapply (reached_at m ρ K (nxt c, 0) _ rfl) $$ HR
    isplitr; · iapply (reached_at m ρ K (prv c, 0) _ rfl) $$ HR
    isplitr; · iexact HL
    isplitl [tT]; · iexact tT
    isplitl [tF]; · iexact tF
    isplitl [cB]; · iexact cB
    iexact aB
  isplitl [a2 a5 a8 a11 t2 t5 t8 t11 c5 c11]
  · isplitl [a2 a5 t2 t5 c5]
    · isplitr; · iapply (rec_iR m ρ K c 0 (of_decide_eq_true rfl)); isplitr; · iexact HR
                 iexact HL
      isplitl [t2]; · iexact t2
      isplitl [t5]; · iexact t5
      isplitl [a2]; · iexact a2
      isplitl [a5]; · iexact a5
      iexact c5
    · isplitr; · iapply (rec_iL m ρ K c 0 (of_decide_eq_true rfl)); isplitr; · iexact HR
                 iexact HL
      isplitl [t8]; · iexact t8
      isplitl [t11]; · iexact t11
      isplitl [a8]; · iexact a8
      isplitl [a11]; · iexact a11
      iexact c11
  isplitl [a3 a6 a9 a12 t3 t6 t9 t12 c6 c12]
  · isplitl [a3 a6 t3 t6 c6]
    · isplitr; · iapply (rec_iR m ρ K c 1 (of_decide_eq_true rfl)); isplitr; · iexact HR
                 iexact HL
      isplitl [t3]; · iexact t3
      isplitl [t6]; · iexact t6
      isplitl [a3]; · iexact a3
      isplitl [a6]; · iexact a6
      iexact c6
    · isplitr; · iapply (rec_iL m ρ K c 1 (of_decide_eq_true rfl)); isplitr; · iexact HR
                 iexact HL
      isplitl [t9]; · iexact t9
      isplitl [t12]; · iexact t12
      isplitl [a9]; · iexact a9
      isplitl [a12]; · iexact a12
      iexact c12
  isplitl [a4 a7 a10 a13 t4 t7 t10 t13 c7 c13]
  · isplitl [a4 a7 t4 t7 c7]
    · isplitr; · iapply (rec_iR m ρ K c 2 (of_decide_eq_true rfl)); isplitr; · iexact HR
                 iexact HL
      isplitl [t4]; · iexact t4
      isplitl [t7]; · iexact t7
      isplitl [a4]; · iexact a4
      isplitl [a7]; · iexact a7
      iexact c7
    · isplitr; · iapply (rec_iL m ρ K c 2 (of_decide_eq_true rfl)); isplitr; · iexact HR
                 iexact HL
      isplitl [t10]; · iexact t10
      isplitl [t13]; · iexact t13
      isplitl [a10]; · iexact a10
      isplitl [a13]; · iexact a13
      iexact c13
  isplitr; · iexact HL
  isplitl [Hh]; · iexact Hh
  isplitl [Ho]; · iexact Ho
  iexact Hw

end Cert.KernelIdeal.Ring

end
-- ==== Proof.Ideal.Launch.lean ====
module

public import proofs.«01_k».proof.Proof.Ideal.Deal
public import Idealize.ShloMosaic.Lib.Pipeline.CollectiveSegs

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The communication buffers, slot by slot -/

theorem mem_slot (k : ℕ) (hk : k < 4) (i : S4x512x1024.Idx) : i ∈ (slotR k hk).set ↔ (i (0 : Fin 3) : Fin 4).val = k := by
  have h1 : (i (1 : Fin 3) : Fin 512).val < 512 := (i (1 : Fin 3) : Fin 512).isLt
  have h2 : (i (2 : Fin 3) : Fin 1024).val < 1024 := (i (2 : Fin 3) : Fin 1024).isLt
  rw [Rect.mem_set_unit]
  constructor
  · intro H
    have a := H (0 : Fin 3)
    change k ≤ (i (0 : Fin 3) : Fin 4).val ∧ (i (0 : Fin 3) : Fin 4).val < k + 1 at a
    omega
  · rintro e a
    match a with
    | ⟨0, _⟩ => show k ≤ (i (0 : Fin 3) : Fin 4).val ∧ (i (0 : Fin 3) : Fin 4).val < k + 1; omega
    | ⟨1, _⟩ => show 0 ≤ (i (1 : Fin 3) : Fin 512).val ∧ (i (1 : Fin 3) : Fin 512).val < 0 + 512; omega
    | ⟨2, _⟩ => show 0 ≤ (i (2 : Fin 3) : Fin 1024).val ∧ (i (2 : Fin 3) : Fin 1024).val < 0 + 1024; omega

/-- The four slots as sets of positions. -/
abbrev slotS (t : Fin 4) : Finset S4x512x1024.Idx := (slotR t.val t.isLt).set
theorem slots_disjoint : ∀ t ∈ (Finset.univ : Finset (Fin 4)), ∀ t' ∈ (Finset.univ : Finset (Fin 4)), t ≠ t' → Disjoint (slotS t) (slotS t') :=
  fun t _ t' _ h => Finset.disjoint_left.mpr fun i hi hi' => h (Fin.ext (((mem_slot _ _ i).mp hi).symm.trans ((mem_slot _ _ i).mp hi')))
theorem slots_cover : (Finset.univ : Finset (Fin 4)).biUnion slotS = Finset.univ := by
  refine Finset.eq_univ_of_forall fun i => Finset.mem_biUnion.mpr ⟨(i (0 : Fin 3) : Fin 4), Finset.mem_univ _, (mem_slot _ _ i).mpr rfl⟩

/-- Slot `t` of either buffer by its set of positions. -/
theorem rPts_eq (k : ℕ) (hk : k < 4) (c : Dev nD) (f : (cc0_scratch0 : Ref sig .tc).ty.Contents (Elt F)) :
    (rPts k hk c fullShare f : sProp 𝕄) = ((c : Thread nD τ).loc cc0_scratch0 ↦[(slotR k hk).set]{fullShare} f) := by
  unfold rPts; rw [slot_setR]
theorem lPts_eq (k : ℕ) (hk : k < 4) (c : Dev nD) (f : (cc0_scratch1 : Ref sig .tc).ty.Contents (Elt F)) :
    (lPts k hk c fullShare f : sProp 𝕄) = ((c : Thread nD τ).loc cc0_scratch1 ↦[(slotR k hk).set]{fullShare} f) := by
  unfold lPts; rw [slot_setL]

theorem list4 (Φ : Fin 4 → sProp 𝕄) : bigSep Finset.univ Φ = iprop(Φ 0 ∗ Φ 1 ∗ Φ 2 ∗ Φ 3) :=
  bigSep_univ_eq_bigSepL ([0, 1, 2, 3] : List (Fin 4)) (by decide) (by decide) Φ

theorem splitR (c : Dev nD) (f : Buf (Elt F) ((c : Thread nD τ).loc cc0_scratch0)) :
    ((c : Thread nD τ).loc cc0_scratch0 ↦{fullShare} f : sProp 𝕄) ⊢ iprop((∃ f, rPts 0 (by decide) c fullShare f) ∗ rFree (F := F) c) := by
  have h : ((c : Thread nD τ).loc cc0_scratch0 ↦{fullShare} f : sProp 𝕄)
      = iprop(rPts 0 (by decide) c fullShare f ∗ rPts 1 (by decide) c fullShare f ∗ rPts 2 (by decide) c fullShare f ∗ rPts 3 (by decide) c fullShare f) := by
    rw [rPts_eq, rPts_eq, rPts_eq, rPts_eq, ← slots_cover]
    exact (pointsTo_biUnion (ℓ := (c : Thread nD τ).loc cc0_scratch0) Finset.univ slotS slots_disjoint).trans (list4 _)
  rw [h]; unfold rFree
  iintro ⟨H0, H1, H2, H3⟩
  isplitl [H0]; · iexists f; iexact H0
  isplitl [H1]; · iexists f; iexact H1
  isplitl [H2]; · iexists f; iexact H2
  iexists f; iexact H3
theorem splitL (c : Dev nD) (f : Buf (Elt F) ((c : Thread nD τ).loc cc0_scratch1)) :
    ((c : Thread nD τ).loc cc0_scratch1 ↦{fullShare} f : sProp 𝕄) ⊢ iprop((∃ f, lPts 0 (by decide) c fullShare f) ∗ lFree (F := F) c) := by
  have h : ((c : Thread nD τ).loc cc0_scratch1 ↦{fullShare} f : sProp 𝕄)
      = iprop(lPts 0 (by decide) c fullShare f ∗ lPts 1 (by decide) c fullShare f ∗ lPts 2 (by decide) c fullShare f ∗ lPts 3 (by decide) c fullShare f) := by
    rw [lPts_eq, lPts_eq, lPts_eq, lPts_eq, ← slots_cover]
    exact (pointsTo_biUnion (ℓ := (c : Thread nD τ).loc cc0_scratch1) Finset.univ slotS slots_disjoint).trans (list4 _)
  rw [h]; unfold lFree
  iintro ⟨H0, H1, H2, H3⟩
  isplitl [H0]; · iexists f; iexact H0
  isplitl [H1]; · iexists f; iexact H1
  isplitl [H2]; · iexists f; iexact H2
  iexists f; iexact H3

theorem joinR (c : Dev nD) : iprop((∃ f, rPts 0 (by decide) c fullShare f) ∗ rFree (F := F) c)
    ⊢ (iprop(∃ f : Buf (Elt F) ((c : Thread nD τ).loc cc0_scratch0), (c : Thread nD τ).loc cc0_scratch0 ↦{fullShare} f) : sProp 𝕄) := by
  unfold rFree
  simp only [rPts_eq]
  iintro ⟨⟨%f0, H0⟩, ⟨%f1, H1⟩, ⟨%f2, H2⟩, ⟨%f3, H3⟩⟩
  ihave H := ((Entails.of_eq (list4 fun t : Fin 4 => ((c : Thread nD τ).loc cc0_scratch0 ↦[slotS t]{fullShare} (![f0, f1, f2, f3] : Fin 4 → Buf (Elt F) ((c : Thread nD τ).loc cc0_scratch0)) t : sProp 𝕄)).symm).trans
    (pointsTo_biUnion_join (ℓ := (c : Thread nD τ).loc cc0_scratch0) Finset.univ slotS ![f0, f1, f2, f3] f0 slots_disjoint)) $$ [H0 H1 H2 H3]
  · isplitl [H0]; · iexact H0
    isplitl [H1]; · iexact H1
    isplitl [H2]; · iexact H2
    iexact H3
  icases H with ⟨%g, -, H⟩
  iexists g
  rw [slots_cover]
  iexact H
theorem joinL (c : Dev nD) : iprop((∃ f, lPts 0 (by decide) c fullShare f) ∗ lFree (F := F) c)
    ⊢ (iprop(∃ f : Buf (Elt F) ((c : Thread nD τ).loc cc0_scratch1), (c : Thread nD τ).loc cc0_scratch1 ↦{fullShare} f) : sProp 𝕄) := by
  unfold lFree
  simp only [lPts_eq]
  iintro ⟨⟨%f0, H0⟩, ⟨%f1, H1⟩, ⟨%f2, H2⟩, ⟨%f3, H3⟩⟩
  ihave H := ((Entails.of_eq (list4 fun t : Fin 4 => ((c : Thread nD τ).loc cc0_scratch1 ↦[slotS t]{fullShare} (![f0, f1, f2, f3] : Fin 4 → Buf (Elt F) ((c : Thread nD τ).loc cc0_scratch1)) t : sProp 𝕄)).symm).trans
    (pointsTo_biUnion_join (ℓ := (c : Thread nD τ).loc cc0_scratch1) Finset.univ slotS ![f0, f1, f2, f3] f0 slots_disjoint)) $$ [H0 H1 H2 H3]
  · isplitl [H0]; · iexact H0
    isplitl [H1]; · iexact H1
    isplitl [H2]; · iexact H2
    iexact H3
  icases H with ⟨%g, -, H⟩
  iexists g
  rw [slots_cover]
  iexact H

/-- The kernel's buffers, as the pipeline hands them over and takes them back. -/
theorem bufs_in (c : Dev nD) : (Pipeline.scopedRest (Ix := Unit) (Name := ℕ) (U := UU) (Lvl := ℕ) (Val := Elt F) spec0 c : sProp 𝕄) ⊢ bufs (F := F) c := by
  rw [scopedRest0_eq]; unfold bufs
  iintro ⟨⟨%f0, H0⟩, ⟨%f1, H1⟩, H2, H3⟩
  isplitl [H0]; · iapply (splitR c f0) $$ H0
  isplitl [H1]; · iapply (splitL c f1) $$ H1
  isplitl [H2]; · iexact H2
  iexact H3
theorem bufs_out (c : Dev nD) : bufs (F := F) c ⊢ (Pipeline.scopedRest (Ix := Unit) (Name := ℕ) (U := UU) (Lvl := ℕ) (Val := Elt F) spec0 c : sProp 𝕄) := by
  rw [scopedRest0_eq]; unfold bufs
  iintro ⟨H0, H1, H2, H3⟩
  isplitl [H0]; · iapply (joinR c) $$ H0
  isplitl [H1]; · iapply (joinL c) $$ H1
  isplitl [H2]; · iexact H2
  iexact H3

/-! ## The proof data -/

abbrev O₀ (c : Dev nD) : CellTallies nD τ sig Unit := owed c 8

/-- Before the kernel's one point, and after it. -/
def Φ₀ (c : Dev nD) : sProp 𝕄 := iprop((∃ K, start m ρ K c) ∗ bufs c)
def Φ₁ (c : Dev nD) : sProp 𝕄 := iprop(ownS c ∗ unscopedSems0 c ∗ bufs c ∗ hPts m c ∗ oPts m c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- When the kernel is done its cells close: their counters are the device's again, at zero. -/
theorem close_all (K : Dev nD × Fin 13 → ℕ) (c : Dev nD) : finish (F := F) m ρ K c
    ⊢ |={Set.univ}=> iprop(ownS c ∗ unscopedSems0 c ∗ hPts m c ∗ oPts m c) := by
  unfold finish dnB
  rw [ownSems0_eq, unscopedSems0_eq]
  iintro ⟨⟨#HI, HB⟩, ⟨R0, L0⟩, ⟨R1, L1⟩, ⟨R2, L2⟩, Hh, Ho, Hw⟩
  imod (closeR m ρ K c 0 (of_decide_eq_true rfl)) $$ R0 with ⟨z2, z5⟩
  imod (closeR m ρ K c 1 (of_decide_eq_true rfl)) $$ R1 with ⟨z3, z6⟩
  imod (closeR m ρ K c 2 (of_decide_eq_true rfl)) $$ R2 with ⟨z4, z7⟩
  imod (closeL m ρ K c 0 (of_decide_eq_true rfl)) $$ L0 with ⟨z8, z11⟩
  imod (closeL m ρ K c 1 (of_decide_eq_true rfl)) $$ L1 with ⟨z9, z12⟩
  imod (closeL m ρ K c 2 (of_decide_eq_true rfl)) $$ L2 with ⟨z10, z13⟩
  imod (Rounds.cell_close ER (rd m ρ) (Set.mem_univ (K (c, 0))) (fun h => h) (R := 0 + 1) (duties_later m ρ (barCell c))) $$ [HB] with zB
  · isplitr; · iexact HI
    iexact HB
  imodintro
  isplitl [z2 z3 z4 z5 z6 z7 z8 z9 z10 z11 z12 z13 Hw]
  · isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    isplitl [z11]; · iexact z11
    isplitl [z12]; · iexact z12
    isplitl [z13]; · iexact z13
    iexact Hw
  isplitl [zB]; · iexact zB
  isplitl [Hh]; · iexact Hh
  iexact Ho

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xstg m ρ c) ∗ stg c cc0_stg1_0 (outAt m ρ c))

theorem sound_body (c : Dev nD) : bodyPre m ρ c ⊢ Wp c (onBufs (cc0__body (F := F))) (fun _ => bodyPost m ρ c) := by
  suffices h : bodyPre m ρ c ⊢ Wp c (onBufs (cc0__body (F := F))) (fun _ => iprop(|={Set.univ}=> bodyPost m ρ c)) from h.trans (wp_fupd _ _ _ _ _)
  unfold bodyPre Φ₀
  iintro ⟨⟨⟨%K, Hs⟩, Hb⟩, Ho, ⟨%d0, %g0, %hg0, Hx⟩, ⟨%d1, %g1, %hg1, Hout⟩⟩
  have hx : g0 = xstg m ρ c := by rw [hg0]; unfold Pipeline.Dat.before; rw [if_pos (fetch0_0 t0_0)]; rfl
  subst hx
  unfold Pipeline.Dat.owesAt Pipeline.owesWithin
  icases Ho with ⟨%W, %hW, HO⟩
  ihave H := (the_body m ρ K c) $$ [Hs Hb Hx Hout HO]
  · isplitl [Hs]; · iexact Hs
    isplitl [Hb]; · iexact Hb
    isplitl [Hx]; · iexact Hx
    isplitl [Hout]; · iexists g1; iexact Hout
    unfold ow; iexists W; iexact HO
  iapply wp_wand_r
  isplitl [H]; · iexact H
  iintro %_ ⟨Hf, Hb, Hx, Hout, HO⟩
  imod (close_all m ρ K c) $$ Hf with ⟨Hz, HB, Hh, Hw⟩
  imodintro
  unfold bodyPost Φ₁ Pipeline.Dat.owesAt Pipeline.owesWithin ow
  icases HO with ⟨%W', HO⟩
  isplitl [Hz HB Hh Hw Hb]
  · isplitl [Hz]; · iexact Hz
    isplitl [HB]; · iexact HB
    isplitl [Hb]; · iexact Hb
    isplitl [Hh]; · iexact Hh
    iexact Hw
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The pipeline's obligation on device `c`. -/
theorem body_obligation (c : Dev nD) : Pipeline.BodyObligation (dats (F := F) m ρ 0 c) (defs₀ (F := F)) 𝒱₀ () Set.univ := fun t => by
  rw [fin_N0 t]
  rw [bigSep_W, bigSep_W]
  simp only [owns_whole_eq]
  show bodyPre m ρ c ⊢ Wp c (onBufs (cc0__body (F := F))) (fun _ => bodyPost m ρ c)
  exact sound_body m ρ c

/-! ## The launch -/

theorem ownSemFacts : Pipeline.OwnSemFacts cfg0.spec osem := by decide

theorem share_eq (c : Dev nD) (w : Fin cfg0.W) : (dats m ρ 0 c).share w = fullShare := by unfold Pipeline.Dat.share; split <;> rfl

/-- What a device holds when it enters the kernel. -/
def entered (c : Dev nD) : sProp 𝕄 := iprop(∃ K, start m ρ K c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(entered m ρ c ∗ emp) := by
  rw [Pipeline.unscopedRestP_none]
  refine (sep_mono_left (Entails.of_eq (unscopedRest0_eq c fun b => m ((c : Thread nD τ).loc b)))).trans ?_
  unfold entered G'
  iintro ⟨⟨H1, H2, H3, H4⟩, Hlev, Hcr, -, ⟨%K, HR, HG⟩⟩
  imodintro
  isplitl
  · iexists K
    iapply (start_of m ρ K c)
    isplitl [HR]; · iexact HR
    isplitl [HG]; · iexact HG
    isplitl [Hlev]; · iexact Hlev
    isplitl [Hcr]; · iexact Hcr
    isplitr [H4]
    · unfold hPts wq wk wv
      isplitl [H1]; · iexact H1
      isplitl [H2]; · iexact H2
      iexact H3
    unfold oPts wo; iexact H4
  · iempintro

theorem phi0_intro (c : Dev nD) :
    iprop(entered m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ entered
  iintro ⟨Hs, -, Hr⟩
  isplitl [Hs]; · iexact Hs
  iapply (bufs_in (F := F) c) $$ Hr

/-- What a device keeps to the end. -/
def keep (c : Dev nD) : sProp 𝕄 := iprop(unscopedSems0 c ∗ hPts m c ∗ oPts m c)

theorem phi1_exit (c : Dev nD) :
    (dats m ρ 0 c).Φ (Fin.last cfg0.N) ⊢ iprop(keep m c ∗ ownS c ∗ Pipeline.scopedRest cfg0.spec c) := by
  rw [show (dats m ρ 0 c).Φ (Fin.last cfg0.N) = Φ₁ m c from rfl]
  unfold Φ₁ keep
  iintro ⟨Hz, HB, Hb, Hh, Hw⟩
  isplitl [HB Hh Hw]
  · isplitl [HB]; · iexact HB
    isplitl [Hh]; · iexact Hh
    iexact Hw
  isplitl [Hz]; · iexact Hz
  iapply (bufs_out (F := F) c) $$ Hb

theorem mayWait_stage (c : Dev nD) (sm : SemLoc sig) (h0 : lv ((c : Thread nD τ), sm) () = 0) (O : CellTallies nD τ sig Unit)
    (h : O = owed c 8 ∨ O = 0) : (levAts L lv : sProp 𝕄) ⊢ MayWait (c : Thread nD τ) sm () O := by
  rcases h with rfl | rfl
  · exact mayWait_low c sm 8 h0
  · exact mayWait_low c sm 0 h0
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- An array of the pipeline when everything is done. -/
def finalA (c : Dev nD) (w : Fin cfg0.W) : Buf (Elt F) ((cfg0.win w).arr.view.loc (c : Thread nD τ)) := (dats m ρ 0 c).arrAt w cfg0.N

/-- The four weights where they were. -/
def sameW (s : MemSt nD τ sig (Elt F)) (c : Dev nD) : Prop :=
  s.mem ((c : Thread nD τ).loc main_arg1) = m ((c : Thread nD τ).loc main_arg1) ∧ s.mem ((c : Thread nD τ).loc main_arg2) = m ((c : Thread nD τ).loc main_arg2)
  ∧ s.mem ((c : Thread nD τ).loc main_arg3) = m ((c : Thread nD τ).loc main_arg3) ∧ s.mem ((c : Thread nD τ).loc main_arg4) = m ((c : Thread nD τ).loc main_arg4)

def QC (s : MemSt nD τ sig (Elt F)) : Prop := ∀ c : Dev nD, (∀ w : Fin cfg0.W, s.mem ((cfg0.win w).arr.view.loc (c : Thread nD τ)) = finalA m ρ c w) ∧ sameW m s c

theorem weight_read (c : Dev nD) (b : Ref sig .tc) (f : Buf (Elt F) ((c : Thread nD τ).loc b)) (s' : Phys nD τ sig (Elt F)) :
    iprop(((c : Thread nD τ).loc b ↦{fullShare} f) ∗ SI s') ⊢ (iprop(⌜s'.mem.mem ((c : Thread nD τ).loc b) = f⌝ ∗ SI s') : sProp 𝕄) := by
  iintro ⟨H, HS⟩
  ihave %h := (SI_pointsTo_agree (st := s')) $$ [H HS]
  · isplitl [HS]; · iexact HS
    iexact H
  isplitr; · ipureintro; exact funext fun i => h i (Finset.mem_univ i)
  iexact HS

theorem keep_read (c : Dev nD) (s' : Phys nD τ sig (Elt F)) : iprop(keep m c ∗ SI s')
    ⊢ (|={Set.univ}=> iprop(⌜(∀ sm : SemLoc sig, sm.isScoped .tc = false → s'.mem.sem ((c.tc : Thread nD τ), sm) = 0) ∧ sameW m s'.mem c⌝ ∗ SI s') : sProp 𝕄) := by
  unfold keep
  iintro ⟨⟨Hu, ⟨H1, H2, H3⟩, H4⟩, HS⟩
  ihave ⟨%e1, HS⟩ := (weight_read c main_arg1 _ s') $$ [H1 HS]
  · isplitl [H1] <;> iassumption
  ihave ⟨%e2, HS⟩ := (weight_read c main_arg2 _ s') $$ [H2 HS]
  · isplitl [H2] <;> iassumption
  ihave ⟨%e3, HS⟩ := (weight_read c main_arg3 _ s') $$ [H3 HS]
  · isplitl [H3] <;> iassumption
  ihave ⟨%e4, HS⟩ := (weight_read c main_arg4 _ s') $$ [H4 HS]
  · isplitl [H4] <;> iassumption
  imod (Pipeline.unscopedSems0_read (X := unscopedSems0 c) (c := c) fupd_intro s') $$ [Hu HS] with ⟨%hu, HS⟩
  · isplitl [Hu] <;> iassumption
  imodintro
  isplitr; · ipureintro; exact ⟨hu, e1, e2, e3, e4⟩
  iexact HS

/-- The ghost state at launch, dealt out. -/
theorem fund_all : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  ihave HX := (own_pair_emb embR (initOf ringCells ringToks) 1) $$ HX
  icases HX with ⟨HX, -⟩
  imod (fund_ring m ρ) $$ HX with HG
  imodintro
  isplitl [HP] <;> iassumption

set_option maxRecDepth 8000 in
/-- From any memory with zero counters, for any float values: every weakly fair execution of the four kernels ends, each device's
    result array holding `outAt`, its arguments and weights as they were, every counter at zero. -/
theorem run_main : θ_run defs (onTc (τ := τ) (main (F := F))) (s₀ m ρ) (fun r => QC m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := fund_all m ρ)
    (hglob := glob m ρ)
    (hA := fun _ _ => rfl) (hpf := fun _ k => k.elim0)
    (X := entered m ρ) (Y := keep m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ sameW m s c)
    (hY := fun c s' => by
      iintro ⟨Hu, -, HSI⟩
      iapply (keep_read m c s')
      isplitl [Hu] <;> iassumption)
    (hQ := fun _ h hs => ⟨fun c => ⟨(h c).1, (h c).2.2.2⟩, sem_eq_zero hs fun c => (h c).2.2.1⟩)

end Cert.KernelIdeal.Ring

end
-- ==== Proof.Ideal.Final.lean ====
/-
  What a run leaves behind, in terms of the arguments: the result is `outAt` on every device, the arguments are unchanged, all counters are zero.
-/
module

public import proofs.«01_k».proof.Proof.Ideal.Launch

@[expose] public section

noncomputable section

namespace Cert.KernelIdeal.Ring

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

theorem out_flushed (c : Dev nD) (t : Fin cfg0.N) :
    (dats m ρ 0 c).flushed 1 t = ((cfg0.win 1).blk t).view.read (Elt F) (outAt m ρ c) := by
  obtain rfl : t = (0 : Fin 1) := Subsingleton.elim (α := Fin 1) _ _
  have ha : (dats m ρ 0 c).after 1 (0 : Fin 1) = outAt m ρ c := rfl
  unfold Pipeline.Dat.flushed
  rw [ha]
  generalize outAt m ρ c = v
  funext i
  show v _ = v _
  refine congrArg v (funext fun a => Fin.ext ?_)
  match a with
  | ⟨0, _⟩ => show (i 0).val = 0 * 2 + 1 * (i 0).val; omega
  | ⟨1, _⟩ => show (i 1).val = 0 * 512 + 1 * (i 1).val; omega
  | ⟨2, _⟩ => show (i 2).val = 0 * 1024 + 1 * (i 2).val; omega

theorem out_cover (i : S2x512x1024.Idx) : ∃ t : Fin cfg0.N, (cfg0.win 1).flush t = true ∧ i ∈ ((cfg0.win 1).blk t).view.set := by
  refine ⟨(0 : Fin 1), flush0_1 _, ?_⟩
  show i ∈ ((View.whole main_v1).slice (win0_1.rect (0 : Fin 1))).set
  rw [View.set_slice_whole, Rect.mem_set_unit]
  intro a
  have h := (i a).isLt
  match a with
  | ⟨0, _⟩ => exact ⟨Nat.zero_le _, h⟩
  | ⟨1, _⟩ => exact ⟨Nat.zero_le _, h⟩
  | ⟨2, _⟩ => exact ⟨Nat.zero_le _, h⟩

theorem final_out (c : Dev nD) : finalA m ρ c (1 : Fin 2) = outAt m ρ c :=
  (dats m ρ 0 c).arrAt_eq_of_cover 1 (outAt m ρ c) (fun t _ => out_flushed m ρ c t) out_cover

theorem final_in (c : Dev nD) : finalA m ρ c (0 : Fin 2) = m ((c : Thread nD τ).loc main_arg0) :=
  (dats (F := F) m ρ 0 c).arrAt_in (0 : Fin 2) rfl _

/-- The five arguments of a device are as they were. -/
def SameArgs (s : MemSt nD τ sig (Elt F)) (c : Dev nD) : Prop :=
  s.mem ((c : Thread nD τ).loc main_arg0) = m ((c : Thread nD τ).loc main_arg0) ∧ sameW m s c

/-- The run, read at the arguments and the result. -/
theorem ran : θ_run defs (onTc (τ := τ) (main (F := F))) ⟨m, fun _ => 0, ρ⟩
    (fun r => (∀ c : Dev nD, r.2.mem ((c : Thread nD τ).loc main_v1) = outAt m ρ c ∧ SameArgs m r.2 c) ∧ r.2.sem = fun _ => 0) :=
  (θ_run defs _ _).mono (fun _ h => ⟨fun c => ⟨((h.1 c).1 (1 : Fin 2)).trans (final_out m ρ c), ((h.1 c).1 (0 : Fin 2)).trans (final_in m ρ c), (h.1 c).2⟩, h.2⟩)
    (run_main m ρ)

end Cert.KernelIdeal.Ring

end
-- ==== Proof.Math.Finite.lean ====
/-
  The precondition read: the entries of `x` and of the two weights it speaks of are real.
-/
module

public import proofs.«01_k».proof.Pre_finite_KernelIdeal
public import proofs.«01_k».proof.Pre_finite_ReferenceIdeal
public import Idealize.ShloMosaic.Lib.ReduceAll
public import Idealize.ShloMosaic.Lib.Affine
public import Idealize.ShloMosaic.Lib.Pointwise
public import Idealize.ShloMosaic.PureOps.Ideal

@[expose] public section

set_option maxRecDepth 16384

noncomputable section

open Idealize.ShloMosaic

namespace Cert.Pre_finite_ReferenceIdeal

/-- The shapes of the predicate over whole arrays fit. -/
theorem fits : Facts where
  bcast_S_S2x2048x1024 := by decide
  reducesTo_S2x2048x1024_S_d0_1_2 := by decide
  h_S_ := by decide
  bcast_S_S1024x1024 := by decide
  reducesTo_S1024x1024_S_d0_1 := by decide

end Cert.Pre_finite_ReferenceIdeal

namespace Cert.Pre_finite_KernelIdeal

/-- The shapes of the predicate over a device's blocks fit. -/
theorem fits : Facts where
  bcast_S_S2x512x1024 := by decide
  reducesTo_S2x512x1024_S_d0_1_2 := by decide
  h_S_ := by decide
  bcast_S_S1024x1024 := by decide
  reducesTo_S1024x1024_S_d0_1 := by decide

theorem lit_top : Ideal.ofBits .f32 0x7F800000#32 = ⊤ := by
  simp [Ideal.ofBits, Ideal.ieee]

/-- A number whose absolute value is below infinity is real. -/
theorem real_of_abs (v : EReal) (h : max v (-v) < ⊤) : v = (v.toReal : EReal) := by
  refine (EReal.coe_toReal ?_ ?_).symm
  · rintro rfl
    simp at h
  · rintro rfl
    simp at h

theorem real_of_test (v : EReal) (h : Ideal.cmp .olt (max v (-v)) (Ideal.ofBits .f32 0x7F800000#32) = 1#1) : v = (v.toReal : EReal) := by
  refine real_of_abs v ?_
  rw [lit_top] at h
  by_contra hn
  simp [Ideal.cmp, hn] at h

instance : Subsingleton S_.Idx := ⟨fun a b => funext fun i => i.elim0⟩

variable [Facts]
variable (x : FVec Ideal S2x512x1024 .f32) (q k v o : FVec Ideal S1024x1024 .f32)

theorem real (h : fn x q k v o = fun _ => 1#1) :
    (∀ i, x i = ((x i).toReal : EReal)) ∧ (∀ i, q i = ((q i).toReal : EReal)) ∧ (∀ i, k i = ((k i).toReal : EReal)) := by
  have h0 := congrFun h (fun i => i.elim0)
  dsimp only [fn] at h0
  obtain ⟨h1, hk⟩ := IntOp.andi_eq_one.1 h0
  obtain ⟨hx, hq⟩ := IntOp.andi_eq_one.1 h1
  exact ⟨fun i => real_of_test _ (Host.reduce_andi_all _ _ _ _ _ hx i), fun i => real_of_test _ (Host.reduce_andi_all _ _ _ _ _ hq i),
    fun i => real_of_test _ (Host.reduce_andi_all _ _ _ _ _ hk i)⟩

end Cert.Pre_finite_KernelIdeal

end
-- ==== Proof.Math.Spec.lean ====
/-
  Attention with rotary embedding over the reals, in terms of natural-number positions: the one formula that both programs are brought to,
  and the identities of real analysis that the two ways of computing it differ by.
-/
module

public import Idealize.ShloMosaic.Lib.Pointwise

@[expose] public section

noncomputable section

namespace Cert.Attn

open Idealize.ShloMosaic

/-! ## The formula -/

/-- The frequency of lane `n` of a head. -/
def hz (n : ℕ) : ℝ := Real.exp (((n - n % 2 : ℕ) : ℝ) * (-Real.log 10000 / 128))

/-- The softmax scale, as the programs spell it. -/
def scale : ℝ := (Ideal.ofBits .f32 0x3DB504F3#32).toReal

variable (X : ℕ → ℕ → ℕ → ℝ) (A B : ℕ → ℕ → ℝ) (V W : ℕ → ℕ → EReal)

/-- A row times a matrix. -/
def proj (b s n : ℕ) : ℝ := ∑ k : Fin 1024, X b s k.val * A k.val n

/-- The rotary embedding of a row `T` at position `s`. -/
def turn (T : ℕ → ℝ) (s n : ℕ) : ℝ :=
  T n * Real.cos (s * hz (n % 128)) + (if n % 2 = 0 then -T (n + 1) else T (n - 1)) * Real.sin (s * hz (n % 128))

/-- The exponential of a scaled score. -/
def wt (b h i j : ℕ) : ℝ :=
  Real.exp ((∑ d : Fin 128, turn (proj X A b i) i (128 * h + d.val) * turn (proj X B b j) j (128 * h + d.val)) * scale)

/-- The values. -/
def val (b j n : ℕ) : EReal := ∑ k : Fin 1024, (X b j k.val : EReal) * V k.val n

/-- The sum of the weights. -/
def tot (b h i : ℕ) : ℝ := ∑ j : Fin 2048, wt X A B b h i j.val

/-- The attention of one head. -/
def att (b i n : ℕ) : EReal :=
  (∑ j : Fin 2048, (wt X A B b (n / 128) i j.val : EReal) * val X V b j.val n) * ((1 / tot X A B b (n / 128) i : ℝ) : EReal)

/-- The result. -/
def out (b i e : ℕ) : EReal := ∑ n : Fin 1024, att X A B V b i n.val * W n.val e

/-! ## Sums and constants among the extended reals -/

theorem coe_sum {ι : Type} (s : Finset ι) (f : ι → ℝ) : (∑ i ∈ s, (f i : EReal)) = ((∑ i ∈ s, f i : ℝ) : EReal) := by
  classical
  induction s using Finset.induction_on with
  | empty => simp
  | insert a t h ih => rw [Finset.sum_insert h, Finset.sum_insert h, ih, EReal.coe_add]

/-- A nonnegative real distributes over a sum. -/
theorem mul_sum_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a t h ih =>
    rw [Finset.sum_insert h, Finset.sum_insert h, ← ih]
    exact EReal.right_distrib_of_nonneg_of_ne_top (EReal.coe_nonneg.2 hc) (EReal.coe_ne_top c) _ _

theorem lit_scale : Ideal.ofBits .f32 0x3DB504F3#32 = (scale : EReal) := by
  unfold scale
  simp [Ideal.ofBits, Ideal.ieee, -EReal.coe_mul]

theorem lit_base : Ideal.ofBits .f32 0x461C4000#32 = ((10000 : ℝ) : EReal) := by
  simp [Ideal.ofBits, Ideal.ieee, -EReal.coe_mul]; norm_num

theorem lit_width : Ideal.ofBits .f32 0x43000000#32 = ((128 : ℝ) : EReal) := by
  simp [Ideal.ofBits, Ideal.ieee, -EReal.coe_mul]; norm_num

theorem div_real (x y : ℝ) (hy : y ≠ 0) : Ideal.div (x : EReal) (y : EReal) = ((x / y : ℝ) : EReal) := by
  rw [Ideal.div_coe hy, ← EReal.coe_mul, mul_one_div]

/-- The frequency as a power. -/
theorem hz_pow (n : ℕ) : (1 : ℝ) / (10000 : ℝ) ^ ((((n - n % 2 : ℕ) : ℝ)) / 128) = hz n := by
  unfold hz
  rw [Real.rpow_def_of_pos (by norm_num), one_div, ← Real.exp_neg]
  congr 1
  ring

/-! ## Softmax -/

theorem tot_pos (b h i : ℕ) : 0 < tot X A B b h i :=
  Finset.sum_pos (fun _ _ => Real.exp_pos _) ⟨0, Finset.mem_univ _⟩

/-- Subtracting a number from every score changes no weight. -/
theorem soft_shift {ι : Type} (s : Finset ι) (f : ι → ℝ) (M : ℝ) (i : ι) :
    Real.exp (f i - M) / ∑ j ∈ s, Real.exp (f j - M) = Real.exp (f i) * (1 / ∑ j ∈ s, Real.exp (f j)) := by
  have h : ∀ j, Real.exp (f j - M) = Real.exp (f j) * Real.exp (-M) := fun j => by rw [← Real.exp_add, sub_eq_add_neg]
  simp only [h, ← Finset.sum_mul]
  rw [mul_div_mul_right _ _ (Real.exp_pos _).ne', mul_one_div]

/-! ## Four blocks of 512 -/

theorem sum_blocks {β : Type} [AddCommMonoid β] (f : ℕ → β) :
    ∑ j : Fin 2048, f j.val = (∑ r : Fin 512, f (512 * 0 + r.val)) + (∑ r : Fin 512, f (512 * 1 + r.val)) + (∑ r : Fin 512, f (512 * 2 + r.val))
      + ∑ r : Fin 512, f (512 * 3 + r.val) := by
  have h : ∀ a, ∑ r : Fin 512, f (a + r.val) = ∑ r ∈ Finset.range 512, f (a + r) := fun a => Fin.sum_univ_eq_sum_range (fun n => f (a + n)) 512
  rw [h, h, h, h, Fin.sum_univ_eq_sum_range f 2048, show (2048 : ℕ) = 512 + 512 + 512 + 512 from rfl]
  simp only [Finset.sum_range_add]
  simp

end Cert.Attn

end
-- ==== Proof.Math.Tables.lean ====
/-
  The kernel's tables of cosines and sines, read at a position: the angle-addition formulas put the device's offset and the row together.
-/
module

public import proofs.«01_k».proof.Proof.Ideal.Value
public import proofs.«01_k».proof.Proof.Math.Spec

@[expose] public section

set_option maxRecDepth 16384

noncomputable section

namespace Cert.KernelIdeal.Ring

open Cert.KernelIdeal Cert.KernelIdeal.Gen Cert.Attn

open Idealize.ShloMosaic
open Idealize.ShloMosaic.TcCoe
open Idealize.SL Idealize.SL.RA Idealize.SL.BI

/-- Which device's rows are met `d` steps to the right of `c`. -/
def at4 (c : Dev nD) (d : ℕ) : ℕ := (c.val + d) % 4

theorem off_word : ∀ (c : Dev nD) (d : Fin 4),
    (Scalar.muli (Scalar.remsi (Scalar.addi (my c) (BitVec.ofNat 32 d.val)) 4#32) 512#32).toInt = ((512 * at4 c d.val : ℕ) : ℤ) := by
  decide +kernel

theorem small_toInt (n : ℕ) (h : n < 2048) : (BitVec.ofNat 32 n).toInt = (n : ℤ) := by
  rw [BitVec.toInt_eq_toNat_of_lt (by rw [BitVec.toNat_ofNat]; omega), BitVec.toNat_ofNat]
  congr 1
  omega

theorem even_word : ∀ n : Fin 128, (IntOp.subi (BitVec.ofNat 32 n.val) (IntOp.remsi ArithUnit.vector (BitVec.ofNat 32 n.val) 2#32)).toInt = ((n.val - n.val % 2 : ℕ) : ℤ) := by
  decide +kernel

/-- An integer as a float, over the extended reals. -/
theorem sitofp_real (w : BitVec 32) : (FloatOps.sitofp FTy.f32 w : Ideal .f32) = (((w.toInt : ℤ) : ℝ) : EReal) := rfl

theorem freq_at (r : Fin 512) (n : Fin 128) : freq (F := Ideal) (ix2 r n) = (hz n.val : EReal) := by
  pointwise [freq, k0_pay9, lane]
  rw [sitofp_real, even_word n, lit_base, lit_width]
  show Ideal.exp (_ * Ideal.div (0 - Ideal.log ((10000 : ℝ) : EReal)) _) = _
  rw [Ideal.log_coe, if_neg (by norm_num), zero_sub, ← EReal.coe_neg, div_real _ _ (by norm_num), ← EReal.coe_mul, Ideal.exp_coe]
  norm_cast

theorem rep8_at {v : FVec Ideal S512x128 .bf16} (r : Fin 512) (n : Fin 1024) : rep8 v (ix2 r n) = v (ix2 r ⟨n.val % 128, Nat.mod_lt _ (by decide)⟩) := by
  pointwise [rep8]
  have hn := n.isLt
  repeat' split
  all_goals exact congrArg v (congrArg (ix2 r) (Fin.ext (by show _ = n.val % 128; simp only []; omega)))

/-- The device's angle and the row's angle add up to the position's. -/
theorem angles (c : Dev nD) (d : ℕ) (r : Fin 512) (z : ℝ) :
    ((512 * at4 c d + r.val : ℕ) : ℝ) * z = (((512 * at4 c d : ℕ) : ℤ) : ℝ) * z + (((r.val : ℕ) : ℤ) : ℝ) * z := by
  push_cast; ring

theorem cosT_at (c : Dev nD) (d : ℕ) (hd : d < 4) (r : Fin 512) (n : Fin 1024) :
    cosT (F := Ideal) c d (ix2 r n) = ((Real.cos (((512 * at4 c d + r.val : ℕ) : ℝ) * hz (n.val % 128)) : ℝ) : EReal) := by
  unfold cosT
  rw [rep8_at]
  have hw := off_word c ⟨d, hd⟩
  have hr := small_toInt r.val (by omega)
  have hf := freq_at r ⟨n.val % 128, Nat.mod_lt _ (by decide)⟩
  have h0 := freq_at 0 ⟨n.val % 128, Nat.mod_lt _ (by decide)⟩
  unfold freq at hf h0
  pointwise [cosO, sinO, angO, freq, cosS, sinS, k0_pay11, k0_pay12, k0_pay10]
  rw [sitofp_real, hr, hf, h0]
  simp only [] at hw
  rw [hw, angles, Real.cos_add]
  simp only [← EReal.coe_mul, Ideal.cos_coe, Ideal.sin_coe, ← EReal.coe_sub]

theorem sinT_at (c : Dev nD) (d : ℕ) (hd : d < 4) (r : Fin 512) (n : Fin 1024) :
    sinT (F := Ideal) c d (ix2 r n) = ((Real.sin (((512 * at4 c d + r.val : ℕ) : ℝ) * hz (n.val % 128)) : ℝ) : EReal) := by
  unfold sinT
  rw [rep8_at]
  have hw := off_word c ⟨d, hd⟩
  have hr := small_toInt r.val (by omega)
  have hf := freq_at r ⟨n.val % 128, Nat.mod_lt _ (by decide)⟩
  have h0 := freq_at 0 ⟨n.val % 128, Nat.mod_lt _ (by decide)⟩
  unfold freq at hf h0
  pointwise [cosO, sinO, angO, freq, cosS, sinS, k0_pay11, k0_pay12, k0_pay10]
  rw [sitofp_real, hr, hf, h0]
  simp only [] at hw
  rw [hw, angles, Real.sin_add]
  simp only [← EReal.coe_mul, Ideal.cos_coe, Ideal.sin_coe, ← EReal.coe_add]

end Cert.KernelIdeal.Ring

end
-- ==== Proof.Math.Rows.lean ====
/-
  The rows the kernel works on, their products with the weights, and the rotary embedding, read at a position.
-/
module

public import proofs.«01_k».proof.Proof.Math.Tables

@[expose] public section

set_option maxRecDepth 16384

noncomputable section

namespace Cert.KernelIdeal.Ring

open Cert.KernelIdeal Cert.KernelIdeal.Gen Cert.Attn

open Idealize.ShloMosaic
open Idealize.ShloMosaic.TcCoe
open Idealize.SL Idealize.SL.RA Idealize.SL.BI

variable (m : (ℓ : Loc nD τ sig) → Buf (Elt Ideal) ℓ) (ρ : Dev nD → PrngReg)

/-- What the arguments hold: `x` and the weights of queries and keys are real, each device having its 512 rows of `x`. -/
structure Given (X : ℕ → ℕ → ℕ → ℝ) (A B : ℕ → ℕ → ℝ) (V W : ℕ → ℕ → EReal) : Prop where
  x : ∀ (c : Dev nD) (b : Fin 2) (r : Fin 512) (k : Fin 1024),
    (m ((c : Thread nD τ).loc main_arg0) : FVec Ideal S2x512x1024 .f32) (ix3 b r k) = (X b.val (512 * c.val + r.val) k.val : EReal)
  q : ∀ (c : Dev nD) (k n : Fin 1024), wq m c (ix2 k n) = (A k.val n.val : EReal)
  k : ∀ (c : Dev nD) (k n : Fin 1024), wk m c (ix2 k n) = (B k.val n.val : EReal)
  v : ∀ (c : Dev nD) (k n : Fin 1024), wv m c (ix2 k n) = V k.val n.val
  o : ∀ (c : Dev nD) (k n : Fin 1024), wo m c (ix2 k n) = W k.val n.val

variable {m} {X : ℕ → ℕ → ℕ → ℝ} {A B : ℕ → ℕ → ℝ} {V W : ℕ → ℕ → EReal} (H : Given m X A B V W)
include H

/-- The staged block is the argument. -/
theorem xstg_at (c : Dev nD) (b : Fin 2) (r : Fin 512) (k : Fin 1024) : xstg m ρ c (ix3 b r k) = (X b.val (512 * c.val + r.val) k.val : EReal) := by
  refine Eq.trans ?_ (H.x c b r k)
  refine congrArg (m ((c : Thread nD τ).loc main_arg0)) (funext fun a => Fin.ext ?_)
  match a with
  | ⟨0, _⟩ => show 0 * 2 + 1 * b.val = b.val; omega
  | ⟨1, _⟩ => show 0 * 512 + 1 * r.val = r.val; omega
  | ⟨2, _⟩ => show 0 * 1024 + 1 * k.val = k.val; omega

omit H in
theorem prv_at : ∀ (c : Dev nD) (j : Fin 4), (prv^[j.val] c).val = at4 c (dist j.val 0) := by decide
omit H in
theorem nxt_at : ∀ (c : Dev nD) (j : Fin 4), (nxt^[j.val] c).val = at4 c (dist j.val 1) := by decide

/-- Which device the rows of batch `b` at hop `j` come from. -/
def src (c : Dev nD) (j : ℕ) (b : Fin 2) : ℕ := at4 c (dist j b)

omit H in
theorem dist_lt (j : ℕ) (hj : j < 4) (b : Fin 2) : dist j b < 4 := by
  match b with
  | 0 => exact Nat.mod_lt _ (by decide)
  | 1 => exact hj

omit H in
theorem src_zero : ∀ (c : Dev nD) (b : Fin 2), src c 0 b = c.val := by decide

theorem xcat_at (c : Dev nD) (j : ℕ) (hj : j < 4) (b : Fin 2) (r : Fin 512) (k : Fin 1024) :
    xcat m ρ c j (ix2 ⟨512 * b.val + r.val, by omega⟩ k) = (X b.val (512 * src c j b + r.val) k.val : EReal) := by
  match j, hj with
  | 0, _ =>
    pointwise [xcat, k0_pay3]
    rw [src_zero]
    exact xstg_at ρ H c b r k
  | j + 1, hj =>
    have e0 := prv_at c ⟨j + 1, hj⟩
    have e1 := nxt_at c ⟨j + 1, hj⟩
    match b with
    | 0 =>
      pointwise [xcat, k0_pay82, k0_pay4, k0_pay5, k0_pay3]
      refine (xstg_at ρ H _ _ _ k).trans ?_
      rw [show (prv^[j + 1] c).val = src c (j + 1) 0 from e0]
      congr 2 <;> simp only [] <;> omega
    | 1 =>
      pointwise [xcat, k0_pay82, k0_pay4, k0_pay5, k0_pay3]
      refine (xstg_at ρ H _ _ _ k).trans ?_
      rw [show (nxt^[j + 1] c).val = src c (j + 1) 1 from e1]
      congr 2; simp only []; omega

/-! ## Products -/

theorem xq_at (c : Dev nD) (b : Fin 2) (r : Fin 512) (n : Fin 1024) :
    xq m ρ c (ix2 ⟨512 * b.val + r.val, by omega⟩ n) = ((proj X A b.val (512 * c.val + r.val) n.val * scale : ℝ) : EReal) := by
  unfold xq
  pointwise [prod, k0_pay6]
  simp only [xcat_at ρ H c 0 (of_decide_eq_true rfl), H.q, lit_scale, ← EReal.coe_mul, coe_sum, src_zero]
  unfold proj
  rw [Finset.sum_mul]
  simp only [mul_assoc]

theorem xk_at (c : Dev nD) (j : ℕ) (hj : j < 4) (b : Fin 2) (r : Fin 512) (n : Fin 1024) :
    xk m ρ c j (ix2 ⟨512 * b.val + r.val, by omega⟩ n) = (proj X B b.val (512 * src c j b + r.val) n.val : EReal) := by
  unfold xk
  pointwise [prod, k0_pay7]
  simp only [xcat_at ρ H c j hj, H.k, ← EReal.coe_mul, coe_sum]
  rfl

theorem xv_at (c : Dev nD) (j : ℕ) (hj : j < 4) (b : Fin 2) (r : Fin 512) (n : Fin 1024) :
    xv m ρ c j (ix2 ⟨512 * b.val + r.val, by omega⟩ n) = val X V b.val (512 * src c j b + r.val) n.val := by
  unfold xv
  pointwise [prod, k0_pay8]
  simp only [xcat_at ρ H c j hj, H.v]
  rfl

/-! ## The rotary embedding -/

omit H in
theorem even_lane : ∀ n : Fin 1024, IntOp.cmpi CmpIPredicate.eq (IntOp.remsi ArithUnit.vector (BitVec.ofNat 32 n.val) 2#32) 0#32 = if n.val % 2 = 0 then 1#1 else 0#1 := by
  decide +kernel

omit H in
/-- The embedding of rows `T` at the positions from `s` on. -/
theorem rope_at (t cs sn : FVec Ideal S512x1024 .bf16) (T : ℕ → ℝ) (s : ℕ) (r : Fin 512) (n : Fin 1024)
    (ht : ∀ n : Fin 1024, t (ix2 r n) = (T n.val : EReal)) (hc : cs (ix2 r n) = (Real.cos (s * hz (n.val % 128)) : EReal))
    (hs : sn (ix2 r n) = (Real.sin (s * hz (n.val % 128)) : EReal)) : rope t cs sn (ix2 r n) = (turn T s n.val : EReal) := by
  pointwise [rope, k0_pay13]
  have hn := n.isLt
  rw [even_lane n, ht, ht, ht, hc, hs]
  unfold turn
  by_cases h : n.val % 2 = 0
  · rw [if_pos h, if_pos h]
    show _ + (0 - ((T ((n.val + 1024 - 1023) % 1024) : ℝ) : EReal)) * _ = _
    rw [show (n.val + 1024 - 1023) % 1024 = n.val + 1 by omega, zero_sub, ← EReal.coe_neg, ← EReal.coe_mul, ← EReal.coe_mul, ← EReal.coe_add]
  · rw [if_neg h, if_neg h]
    show _ + ((T ((n.val + 1024 - 1) % 1024) : ℝ) : EReal) * _ = _
    rw [show (n.val + 1024 - 1) % 1024 = n.val - 1 by omega, ← EReal.coe_mul, ← EReal.coe_mul, ← EReal.coe_add]

omit H in
theorem turn_scale (T : ℕ → ℝ) (c : ℝ) (s n : ℕ) : turn (fun n => T n * c) s n = turn T s n * c := by
  unfold turn
  by_cases h : n % 2 = 0
  · rw [if_pos h, if_pos h]; ring
  · rw [if_neg h, if_neg h]; ring

theorem qq_at (c : Dev nD) (b : Fin 2) (r : Fin 512) (n : Fin 1024) :
    qq m ρ c b (ix2 r n) = ((turn (proj X A b.val (512 * c.val + r.val)) (512 * c.val + r.val) n.val * scale : ℝ) : EReal) := by
  unfold qq
  have e : at4 c 0 = c.val := Nat.mod_eq_of_lt c.isLt
  rw [← turn_scale]
  refine rope_at _ _ _ _ _ r n (fun n => ?_) ?_ ?_
  · pointwise [rowsB]
    exact xq_at ρ H c b r n
  · have h := cosT_at c 0 (of_decide_eq_true rfl) r n
    rwa [e] at h
  · have h := sinT_at c 0 (of_decide_eq_true rfl) r n
    rwa [e] at h

theorem kk_at (c : Dev nD) (j : ℕ) (hj : j < 4) (b : Fin 2) (r : Fin 512) (n : Fin 1024) :
    kk m ρ c j b (ix2 r n) = (turn (proj X B b.val (512 * src c j b + r.val)) (512 * src c j b + r.val) n.val : EReal) := by
  unfold kk
  refine rope_at _ _ _ _ _ r n (fun n => ?_) (cosT_at c _ (dist_lt j hj b) r n) (sinT_at c _ (dist_lt j hj b) r n)
  pointwise [rowsB]
  exact xk_at ρ H c j hj b r n

theorem vv_at (c : Dev nD) (j : ℕ) (hj : j < 4) (b : Fin 2) (r : Fin 512) (n : Fin 1024) :
    vv m ρ c j b (ix2 r n) = val X V b.val (512 * src c j b + r.val) n.val := by
  pointwise [vv, rowsB]
  exact xv_at ρ H c j hj b r n

end Cert.KernelIdeal.Ring

end
-- ==== Proof.Math.Heads.lean ====
/-
  The kernel's scores, running sums and result, read at a position: after the four hops they are the whole sums of the formula.
-/
module

public import proofs.«01_k».proof.Proof.Math.Rows

@[expose] public section

set_option maxRecDepth 16384

noncomputable section

namespace Cert.KernelIdeal.Ring

open Cert.KernelIdeal Cert.KernelIdeal.Gen Cert.Attn

open Idealize.ShloMosaic
open Idealize.ShloMosaic.TcCoe
open Idealize.SL Idealize.SL.RA Idealize.SL.BI

variable {m : (ℓ : Loc nD τ sig) → Buf (Elt Ideal) ℓ} (ρ : Dev nD → PrngReg)
variable {X : ℕ → ℕ → ℕ → ℝ} {A B : ℕ → ℕ → ℝ} {V W : ℕ → ℕ → EReal} (H : Given m X A B V W)

/-- The four hops meet the four devices' rows, in some order. -/
theorem hops_perm {β : Type} [AddCommMonoid β] (f : ℕ → β) : ∀ (c : Dev nD) (b : Fin 2),
    f (src c 0 b) + f (src c 1 b) + f (src c 2 b) + f (src c 3 b) = f 0 + f 1 + f 2 + f 3 := by
  have h : ∀ (c : Dev nD) (b : Fin 2), [src c 0 b, src c 1 b, src c 2 b, src c 3 b].Perm [0, 1, 2, 3] := by decide
  intro c b
  have e := ((h c b).map f).sum_eq
  simpa [add_assoc] using e

include H

theorem pp_at (c : Dev nD) (j : ℕ) (hj : j < 4) (b : Fin 2) (h : Fin 8) (r t : Fin 512) :
    pp m ρ c j b h (ix2 r t) = (wt X A B b.val h.val (512 * c.val + r.val) (512 * src c j b + t.val) : EReal) := by
  pointwise [pp, colsH]
  simp only [qq_at ρ H, kk_at ρ H c j hj, ← EReal.coe_mul, coe_sum, Ideal.exp_coe]
  unfold wt
  rw [Finset.sum_mul]
  refine congrArg _ (congrArg Real.exp (Finset.sum_congr rfl fun d _ => ?_))
  ring

theorem dl_at (c : Dev nD) (j : ℕ) (hj : j < 4) (b : Fin 2) (h : Fin 8) (r : Fin 512) :
    dl m ρ c j b h (ix2 r 0) = ((∑ t : Fin 512, wt X A B b.val h.val (512 * c.val + r.val) (512 * src c j b + t.val) : ℝ) : EReal) := by
  pointwise [dl, rsum]
  simp only [pp_at ρ H c j hj, coe_sum]

theorem da_at (c : Dev nD) (j : ℕ) (hj : j < 4) (b : Fin 2) (h : Fin 8) (r : Fin 512) (d : Fin 128) :
    da m ρ c j b h (ix2 r d) = ∑ t : Fin 512, (wt X A B b.val h.val (512 * c.val + r.val) (512 * src c j b + t.val) : EReal)
      * val X V b.val (512 * src c j b + t.val) (128 * h.val + d.val) := by
  pointwise [da, pb, colsH]
  simp only [pp_at ρ H c j hj, vv_at ρ H c j hj]

theorem ll_at (c : Dev nD) (b : Fin 2) (h : Fin 8) (r : Fin 512) :
    ll m ρ c 3 b h (ix2 r 0) = (tot X A B b.val h.val (512 * c.val + r.val) : EReal) := by
  pointwise [ll]
  rw [dl_at ρ H c 0 (of_decide_eq_true rfl), dl_at ρ H c 1 (of_decide_eq_true rfl), dl_at ρ H c 2 (of_decide_eq_true rfl),
    dl_at ρ H c 3 (of_decide_eq_true rfl), ← EReal.coe_add, ← EReal.coe_add, ← EReal.coe_add]
  unfold tot
  rw [sum_blocks fun j => wt X A B b.val h.val (512 * c.val + r.val) j,
    hops_perm (fun s => ∑ t : Fin 512, wt X A B b.val h.val (512 * c.val + r.val) (512 * s + t.val)) c b]

theorem aa_at (c : Dev nD) (b : Fin 2) (h : Fin 8) (r : Fin 512) (d : Fin 128) :
    aa m ρ c 3 b h (ix2 r d) = ∑ j : Fin 2048, (wt X A B b.val h.val (512 * c.val + r.val) j.val : EReal) * val X V b.val j.val (128 * h.val + d.val) := by
  pointwise [aa]
  rw [da_at ρ H c 0 (of_decide_eq_true rfl), da_at ρ H c 1 (of_decide_eq_true rfl), da_at ρ H c 2 (of_decide_eq_true rfl),
    da_at ρ H c 3 (of_decide_eq_true rfl)]
  rw [sum_blocks fun j => (wt X A B b.val h.val (512 * c.val + r.val) j : EReal) * val X V b.val j (128 * h.val + d.val),
    hops_perm (fun s => ∑ t : Fin 512, (wt X A B b.val h.val (512 * c.val + r.val) (512 * s + t.val) : EReal)
      * val X V b.val (512 * s + t.val) (128 * h.val + d.val)) c b]

theorem ctx_at (c : Dev nD) (b : Fin 2) (h : Fin 8) (r : Fin 512) (d : Fin 128) :
    ctx m ρ c b h (ix2 r d) = att X A B V b.val (512 * c.val + r.val) (128 * h.val + d.val) := by
  pointwise [ctx, linv]
  rw [ll_at ρ H, aa_at ρ H, Ideal.div_coe (tot_pos X A B _ _ _).ne', one_mul]
  unfold att
  rw [show (128 * h.val + d.val) / 128 = h.val by omega]

omit H in
theorem cbuf_at (c : Dev nD) (i n : Fin 1024) : cbuf m ρ c (ix2 i n)
    = ctx m ρ c ⟨i.val / 512, by omega⟩ ⟨n.val / 128, by omega⟩ (ix2 ⟨i.val % 512, Nat.mod_lt _ (by decide)⟩ ⟨n.val % 128, Nat.mod_lt _ (by decide)⟩) := by
  unfold cbuf
  refine congrArg (ctx m ρ c _ _) (funext fun a => ?_)
  match a with
  | ⟨0, _⟩ => rfl
  | ⟨1, _⟩ => rfl

theorem outAt_at (c : Dev nD) (b : Fin 2) (r : Fin 512) (e : Fin 1024) :
    outAt m ρ c (ix3 b r e) = out X A B V W b.val (512 * c.val + r.val) e.val := by
  pointwise [outAt, k0_pay2]
  unfold out
  refine Finset.sum_congr rfl fun n _ => ?_
  rw [H.o]
  refine congrArg (· * W n.val e.val) ?_
  have hn := n.isLt
  have hr := r.isLt
  rw [cbuf_at, ctx_at ρ H]
  show att X A B V ((b.val * 512 + r.val) / 512) (512 * c.val + (b.val * 512 + r.val) % 512) (128 * (n.val / 128) + n.val % 128) = _
  rw [show (b.val * 512 + r.val) / 512 = b.val by omega, show (b.val * 512 + r.val) % 512 = r.val by omega, Nat.div_add_mod]

end Cert.KernelIdeal.Ring

end
-- ==== Proof.Math.Stages.lean ====
/-
  The reference's steps, named one by one.
-/
module

public import proofs.«01_k».proof.Proof.Gen.ReferenceIdeal.Run
public import proofs.«01_k».proof.Proof.Math.Spec

@[expose] public section

set_option maxRecDepth 16384

noncomputable section

namespace Cert.ReferenceIdeal.Stages

open Cert.ReferenceIdeal Cert.ReferenceIdeal.Gen Cert.Attn

open Idealize.ShloMosaic
open Idealize.ShloMosaic.TcCoe

/-- The frequencies. -/
def freqs : FVec Ideal S64 .f32 :=
  Host.divf (broadcastInDim S64 ![] bcast_S_S64 (constant S_ .f32 0x3F800000#32))
    (Host.powf (broadcastInDim S64 ![] bcast_S_S64 (constant S_ .f32 0x461C4000#32))
      (Host.divf (sitofp .f32 (addi (broadcastInDim S64 ![] bcast_S_S64 (constantI S_ 32 0#32))
          (muli (broadcastInDim S64 ![] bcast_S_S64 (constantI S_ 32 2#32)) (iotaInDim S64 32 0))))
        (broadcastInDim S64 ![] bcast_S_S64 (constant S_ .f32 0x43000000#32))))

/-- The angles. -/
def angs : FVec Ideal S2048x64 .f32 :=
  mulf (broadcastInDim S2048x64 ![0, 1] bcast_S2048x1_S2048x64_0_1 (sitofp .f32 (broadcastInDim S2048x1 ![0] bcast_S2048_S2048x1_0 (iotaInDim S2048 32 0))))
    (broadcastInDim S2048x64 ![0, 1] bcast_S1x64_S2048x64_0_1 (broadcastInDim S1x64 ![1] bcast_S64_S1x64_1 freqs))

/-- A table over positions and pairs of lanes, for every batch, head and lane. -/
def spread (t : FVec Ideal S2048x64 .f32) : FVec Ideal S2x2048x8x128 .f32 :=
  broadcastInDim S2x2048x8x128 ![0, 1, 2, 3] bcast_S1x2048x1x128_S2x2048x8x128_0_1_2_3
    (broadcastInDim S1x2048x1x128 ![1, 3] bcast_S2048x128_S1x2048x1x128_1_3
      (shapeCast _ (broadcastInDim S2048x64x2 ![0, 1] bcast_S2048x64_S2048x64x2_0_1 t) shapeCasts_S2048x64x2_S2048x128))

/-- Rows times a matrix, by heads. -/
def heads (x : FVec Ideal S2x2048x1024 .f32) (w : FVec Ideal S1024x1024 .f32) : FVec Ideal S2x2048x8x128 .f32 :=
  shapeCast _ (Host.dotGeneral dot_S2x2048x1024_S1024x1024_S2x2048x1024_2_0_01_1_n_n none x w) shapeCasts_S2x2048x1024_S2x2048x8x128

/-- The pairs of lanes turned by a right angle. -/
def quarter (t : FVec Ideal S2x2048x8x128 .f32) : FVec Ideal S2x2048x8x128 .f32 :=
  shapeCast _ (concatenate S2x2048x8x64x2 4
    [⟨S2x2048x8x64x1, broadcastInDim S2x2048x8x64x1 ![0, 1, 2, 3] bcast_S2x2048x8x64_S2x2048x8x64x1_0_1_2_3
      (Host.negf (shapeCast _ (extractStridedSlice S2x2048x8x64x1 ![0, 0, 0, 0, 1] (shapeCast _ t shapeCasts_S2x2048x8x128_S2x2048x8x64x2)
        slices_S2x2048x8x64x2_S2x2048x8x64x1_0_0_0_0_1) shapeCasts_S2x2048x8x64x1_S2x2048x8x64))⟩,
     ⟨S2x2048x8x64x1, broadcastInDim S2x2048x8x64x1 ![0, 1, 2, 3] bcast_S2x2048x8x64_S2x2048x8x64x1_0_1_2_3
      (shapeCast _ (extractStridedSlice S2x2048x8x64x1 ![0, 0, 0, 0, 0] (shapeCast _ t shapeCasts_S2x2048x8x128_S2x2048x8x64x2)
        slices_S2x2048x8x64x2_S2x2048x8x64x1_0_0_0_0_0) shapeCasts_S2x2048x8x64x1_S2x2048x8x64)⟩]
    concatenates_S2x2048x8x64x1_S2x2048x8x64x1_S2x2048x8x64x2_d4) shapeCasts_S2x2048x8x64x2_S2x2048x8x128

/-- The rotary embedding. -/
def embed (t : FVec Ideal S2x2048x8x128 .f32) : FVec Ideal S2x2048x8x128 .f32 :=
  addf (mulf t (spread (Host.cos angs))) (mulf (quarter t) (spread (Host.sin angs)))

/-- The scaled scores. -/
def scores (q k : FVec Ideal S2x2048x8x128 .f32) : FVec Ideal S2x8x2048x2048 .f32 :=
  mulf (Host.dotGeneral dot_S2x2048x8x128_S2x2048x8x128_S2x8x2048x2048_3_3_1_1_02_02 none q k)
    (broadcastInDim S2x8x2048x2048 ![] bcast_S_S2x8x2048x2048 (constant S_ .f32 0x3DB504F3#32))

/-- The greatest score of each query. -/
def tops (s : FVec Ideal S2x8x2048x2048 .f32) : FVec Ideal S2x8x2048 .f32 :=
  Host.reduce FloatOps.maximumf s (constant S_ .f32 0xFF800000#32) reducesTo_S2x8x2048x2048_S2x8x2048_d3 h_S_

/-- A number for each query, repeated for the keys. -/
def along (t : FVec Ideal S2x8x2048 .f32) : FVec Ideal S2x8x2048x2048 .f32 :=
  broadcastInDim S2x8x2048x2048 ![0, 1, 2, 3] bcast_S2x8x2048x1_S2x8x2048x2048_0_1_2_3 (broadcastInDim S2x8x2048x1 ![0, 1, 2] bcast_S2x8x2048_S2x8x2048x1_0_1_2 t)

def expos (s : FVec Ideal S2x8x2048x2048 .f32) : FVec Ideal S2x8x2048x2048 .f32 := Host.exp (subf s (along (tops s)))

def soft (e : FVec Ideal S2x8x2048x2048 .f32) : FVec Ideal S2x8x2048x2048 .f32 :=
  Host.divf e (along (Host.reduceAdd e (constant S_ .f32 0x00000000#32) reducesTo_S2x8x2048x2048_S2x8x2048_d3 h_S_))

/-- The weighted sums of the values, heads side by side again. -/
def mix (v : FVec Ideal S2x2048x8x128 .f32) (p : FVec Ideal S2x8x2048x2048 .f32) : FVec Ideal S2x2048x1024 .f32 :=
  shapeCast _ (transpose S2x2048x8x128 [0, 3, 1, 2] (Host.dotGeneral dot_S2x2048x8x128_S2x8x2048x2048_S2x8x128x2048_1_3_3_2_02_01 none v p)
    transposes_S2x8x128x2048_S2x2048x8x128_0_3_1_2) shapeCasts_S2x2048x8x128_S2x2048x1024

def result (x : FVec Ideal S2x2048x1024 .f32) (wq wk wv wo : FVec Ideal S1024x1024 .f32) : FVec Ideal S2x2048x1024 .bf16 :=
  truncf .bf16 (Host.dotGeneral dot_S2x2048x1024_S1024x1024_S2x2048x1024_2_0_01_1_n_n none
    (mix (heads x wv) (soft (expos (scores (embed (heads x wq)) (embed (heads x wk)))))) wo) bitsLt_bf16_f32

theorem result_eq (m : (ℓ : Loc nD τ sig) → Buf (Elt Ideal) ℓ) (c : Dev nD) : Value.res_main_v81 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_main_v81
  rfl

end Cert.ReferenceIdeal.Stages

end
-- ==== Proof.Math.Reading.lean ====
/-
  The reference's steps read at a position, down to the formula.
-/
module

public import proofs.«01_k».proof.Proof.Math.Stages

@[expose] public section

set_option maxRecDepth 16384

noncomputable section

namespace Cert.ReferenceIdeal.Stages

open Cert.ReferenceIdeal Cert.ReferenceIdeal.Gen Cert.Attn

open Idealize.ShloMosaic
open Idealize.ShloMosaic.TcCoe

theorem lit_bot : Ideal.ofBits .f32 0xFF800000#32 = ⊥ := by
  simp [Ideal.ofBits, Ideal.ieee]

theorem sitofp_real (w : BitVec 32) : (FloatOps.sitofp FTy.f32 w : Ideal .f32) = (((w.toInt : ℤ) : ℝ) : EReal) := rfl

theorem pair_word : ∀ i : Fin 64, (IntOp.addi (0#32) (IntOp.muli (2#32) (BitVec.ofNat 32 i.val))).toInt = ((2 * i.val : ℕ) : ℤ) := by
  decide +kernel

theorem row_word (n : ℕ) (h : n < 2048) : (BitVec.ofNat 32 n).toInt = (n : ℤ) := by
  rw [BitVec.toInt_eq_toNat_of_lt (by rw [BitVec.toNat_ofNat]; omega), BitVec.toNat_ofNat]
  congr 1
  omega

theorem freqs_at (i : Fin 64) : freqs (ix1 i) = (hz (2 * i.val) : EReal) := by
  pointwise [freqs]
  rw [sitofp_real, pair_word, lit_base, lit_width, div_real _ _ (by norm_num), Ideal.pow_coe_coe, ← EReal.coe_one, div_real]
  · rw [← hz_pow, Nat.mul_mod_right, Nat.sub_zero]
    rfl
  · exact (Real.rpow_pos_of_pos (by norm_num) _).ne'

theorem angs_at (s : Fin 2048) (i : Fin 64) : angs (ix2 s i) = ((s.val * hz (2 * i.val) : ℝ) : EReal) := by
  pointwise [angs]
  rw [freqs_at, sitofp_real, row_word _ s.isLt, ← EReal.coe_mul]
  norm_cast

theorem hz_pair (h n : ℕ) (hn : n < 128) : hz (2 * (n / 2)) = hz ((128 * h + n) % 128) := by
  rw [show (128 * h + n) % 128 = n by omega]
  unfold hz
  rw [show 2 * (n / 2) - 2 * (n / 2) % 2 = n - n % 2 by omega]

theorem cos_at (b : Fin 2) (s : Fin 2048) (h : Fin 8) (n : Fin 128) :
    spread (Host.cos angs) (ix4 b s h n) = (Real.cos (s.val * hz ((128 * h.val + n.val) % 128)) : EReal) := by
  pointwise [spread]
  rw [angs_at, ← hz_pair h.val n.val n.isLt]
  rfl

theorem sin_at (b : Fin 2) (s : Fin 2048) (h : Fin 8) (n : Fin 128) :
    spread (Host.sin angs) (ix4 b s h n) = (Real.sin (s.val * hz ((128 * h.val + n.val) % 128)) : EReal) := by
  pointwise [spread]
  rw [angs_at, ← hz_pair h.val n.val n.isLt]
  rfl

theorem quarter_at (t : FVec Ideal S2x2048x8x128 .f32) (b : Fin 2) (s : Fin 2048) (h : Fin 8) (n : Fin 128) :
    quarter t (ix4 b s h n) = if n.val % 2 < 1 then -t (ix4 b s h ⟨n.val / 2 * 2 + 1, by omega⟩) else t (ix4 b s h ⟨n.val / 2 * 2, by omega⟩) := by
  pointwise [quarter]
  rfl

/-- The embedding of rows that are real. -/
theorem embed_at (t : FVec Ideal S2x2048x8x128 .f32) (T : ℕ → ℕ → ℕ → ℝ)
    (ht : ∀ (b : Fin 2) (s : Fin 2048) (h : Fin 8) (n : Fin 128), t (ix4 b s h n) = (T b.val s.val (128 * h.val + n.val) : EReal))
    (b : Fin 2) (s : Fin 2048) (h : Fin 8) (n : Fin 128) :
    embed t (ix4 b s h n) = (turn (T b.val s.val) s.val (128 * h.val + n.val) : EReal) := by
  pointwise [embed]
  have hn := n.isLt
  rw [quarter_at, ht, ht, ht, cos_at, sin_at]
  unfold turn
  by_cases e : n.val % 2 < 1
  · rw [if_pos e, if_pos (by omega), ← EReal.coe_neg, ← EReal.coe_mul, ← EReal.coe_mul, ← EReal.coe_add]
    show ((_ + -T b.val s.val (128 * h.val + (n.val / 2 * 2 + 1)) * _ : ℝ) : EReal) = _
    rw [show 128 * h.val + (n.val / 2 * 2 + 1) = 128 * h.val + n.val + 1 by omega]
  · rw [if_neg e, if_neg (by omega), ← EReal.coe_mul, ← EReal.coe_mul, ← EReal.coe_add]
    show ((_ + T b.val s.val (128 * h.val + n.val / 2 * 2) * _ : ℝ) : EReal) = _
    rw [show 128 * h.val + n.val / 2 * 2 = 128 * h.val + n.val - 1 by omega]

variable {X : ℕ → ℕ → ℕ → ℝ} {A B : ℕ → ℕ → ℝ} {V W : ℕ → ℕ → EReal}
variable {x : FVec Ideal S2x2048x1024 .f32} {wq wk wv wo : FVec Ideal S1024x1024 .f32}
variable (hx : ∀ (b : Fin 2) (s : Fin 2048) (k : Fin 1024), x (ix3 b s k) = (X b.val s.val k.val : EReal))
include hx

theorem heads_at (hA : ∀ k n : Fin 1024, wq (ix2 k n) = (A k.val n.val : EReal)) (b : Fin 2) (s : Fin 2048) (h : Fin 8) (n : Fin 128) :
    heads x wq (ix4 b s h n) = (proj X A b.val s.val (128 * h.val + n.val) : EReal) := by
  pointwise [heads]
  simp only [hx, hA, ← EReal.coe_mul, coe_sum]
  unfold proj
  rw [Nat.mul_comm 128]

theorem vals_at (hV : ∀ k n : Fin 1024, wv (ix2 k n) = V k.val n.val) (b : Fin 2) (s : Fin 2048) (h : Fin 8) (n : Fin 128) :
    heads x wv (ix4 b s h n) = val X V b.val s.val (128 * h.val + n.val) := by
  pointwise [heads]
  simp only [hx, hV]
  unfold val
  rw [Nat.mul_comm 128]

omit hx in
/-- The greatest of finitely many reals is real. -/
theorem fold_max_real {n : ℕ} (f : Fin (n + 1) → ℝ) : ∃ M : ℝ, Finset.fold max (⊥ : EReal) (fun i => (f i : EReal)) Finset.univ = (M : EReal) := by
  suffices h : ∀ s : Finset (Fin (n + 1)), s.Nonempty → ∃ M : ℝ, Finset.fold max (⊥ : EReal) (fun i => (f i : EReal)) s = (M : EReal) from h _ ⟨0, Finset.mem_univ _⟩
  intro s hs
  induction hs using Finset.Nonempty.cons_induction with
  | singleton a => exact ⟨f a, by simp⟩
  | cons a t ha ht ih =>
    obtain ⟨M, hM⟩ := ih
    refine ⟨max (f a) M, ?_⟩
    rw [Finset.fold_cons, hM]
    exact (EReal.coe_strictMono.monotone.map_max).symm

omit hx in
/-- Softmax of real scores. -/
theorem soft_at (s : FVec Ideal S2x8x2048x2048 .f32) (b : Fin 2) (h : Fin 8) (i : Fin 2048) (f : ℕ → ℝ)
    (hs : ∀ j : Fin 2048, s (ix4 b h i j) = (f j.val : EReal)) (j : Fin 2048) :
    soft (expos s) (ix4 b h i j) = ((Real.exp (f j.val) * (1 / ∑ k : Fin 2048, Real.exp (f k.val)) : ℝ) : EReal) := by
  have ht : ∃ M : ℝ, tops s (ix3 b h i) = (M : EReal) := by
    pointwise [tops]
    simp only [hs, lit_bot]
    exact fold_max_real fun j : Fin 2048 => f j.val
  obtain ⟨M, hM⟩ := ht
  have he : ∀ j : Fin 2048, expos s (ix4 b h i j) = ((Real.exp (f j.val - M) : ℝ) : EReal) := fun j => by
    pointwise [expos, along]
    rw [hs, hM, ← EReal.coe_sub, Ideal.exp_coe]
  pointwise [soft, along]
  simp only [he, coe_sum]
  rw [div_real]
  · rw [soft_shift Finset.univ (fun k : Fin 2048 => f k.val) M j]
  · exact (Finset.sum_pos (fun _ _ => Real.exp_pos _) ⟨0, Finset.mem_univ _⟩).ne'

theorem result_at (hA : ∀ k n : Fin 1024, wq (ix2 k n) = (A k.val n.val : EReal)) (hB : ∀ k n : Fin 1024, wk (ix2 k n) = (B k.val n.val : EReal))
    (hV : ∀ k n : Fin 1024, wv (ix2 k n) = V k.val n.val) (hW : ∀ k n : Fin 1024, wo (ix2 k n) = W k.val n.val)
    (b : Fin 2) (s : Fin 2048) (e : Fin 1024) : result x wq wk wv wo (ix3 b s e) = out X A B V W b.val s.val e.val := by
  have hp : ∀ (h : Fin 8) (j : Fin 2048), soft (expos (scores (embed (heads x wq)) (embed (heads x wk)))) (ix4 b h s j)
      = ((wt X A B b.val h.val s.val j.val * (1 / tot X A B b.val h.val s.val) : ℝ) : EReal) := fun h j => by
    refine soft_at _ b h s (fun j => (∑ d : Fin 128, turn (proj X A b.val s.val) s.val (128 * h.val + d.val)
      * turn (proj X B b.val j) j (128 * h.val + d.val)) * scale) (fun j => ?_) j
    pointwise [scores]
    simp only [embed_at _ _ (heads_at hx hA), embed_at _ _ (heads_at hx hB), lit_scale, ← EReal.coe_mul, coe_sum]
  pointwise [result]
  unfold out
  refine Finset.sum_congr rfl fun n _ => ?_
  rw [hW]
  refine congrArg (· * W n.val e.val) ?_
  pointwise [mix]
  simp only [hp, vals_at hx hV]
  unfold att
  rw [mul_sum_real _ _ _ (one_div_nonneg.2 (tot_pos X A B _ _ _).le), Nat.div_add_mod]
  refine Finset.sum_congr rfl fun j _ => ?_
  rw [EReal.coe_mul, mul_comm, mul_right_comm]

end Cert.ReferenceIdeal.Stages

end
-- ==== Proof.Math.Equal.lean ====
/-
  The two programs' results: each is the formula of the arguments, so a device's result is its block of the reference's.
-/
module

public import proofs.«01_k».proof.Proof.Math.Heads
public import proofs.«01_k».proof.Proof.Math.Reading
public import Idealize.ShloMosaic.Lib.Layout

@[expose] public section

set_option maxRecDepth 16384

noncomputable section

namespace Cert.Attn

open Idealize.ShloMosaic

/-- An array read at numbers, zero outside. -/
def at3 {α : Type} [Zero α] {p q r : ℕ} (v : (⟨3, ![p, q, r]⟩ : Shape).Idx → α) (i j k : ℕ) : α :=
  if h : (i < p ∧ j < q) ∧ k < r then v (ix3 ⟨i, h.1.1⟩ ⟨j, h.1.2⟩ ⟨k, h.2⟩) else 0

def at2 {α : Type} [Zero α] {p q : ℕ} (v : (⟨2, ![p, q]⟩ : Shape).Idx → α) (i j : ℕ) : α :=
  if h : i < p ∧ j < q then v (ix2 ⟨i, h.1⟩ ⟨j, h.2⟩) else 0

theorem at3_fin {α : Type} [Zero α] {p q r : ℕ} (v : (⟨3, ![p, q, r]⟩ : Shape).Idx → α) (i : Fin p) (j : Fin q) (k : Fin r) :
    at3 v i.val j.val k.val = v (ix3 i j k) := dif_pos ⟨⟨i.isLt, j.isLt⟩, k.isLt⟩

theorem at2_fin {α : Type} [Zero α] {p q : ℕ} (v : (⟨2, ![p, q]⟩ : Shape).Idx → α) (i : Fin p) (j : Fin q) :
    at2 v i.val j.val = v (ix2 i j) := dif_pos ⟨i.isLt, j.isLt⟩

abbrev Part : Shape := ⟨3, ![2, 512, 1024]⟩
abbrev Full : Shape := ⟨3, ![2, 2048, 1024]⟩
abbrev Mat : Shape := ⟨2, ![1024, 1024]⟩

/-- Row `r` of device `c` in the whole array. -/
def row (c : Fin 4) (r : Fin 512) : Fin 2048 := ⟨512 * c.val + r.val, by omega⟩

theorem block_at {α : Type} (v : Full.Idx → α) (c : Fin 4) (b : Fin 2) (r : Fin 512) (k : Fin 1024) :
    Layout.block Part Full 1 4 c v (by decide) (ix3 b r k) = v (ix3 b (row c r) k) := by
  rw [Layout.block_apply]
  refine congrArg v (funext fun a => Fin.ext ?_)
  rw [Layout.Tiles.idx_val]
  fin_cases a
  · rfl
  · show c.val * 512 + r.val = 512 * c.val + r.val
    omega
  · rfl

/-- Every row of the whole array is some device's. -/
theorem row_onto (s : Fin 2048) : ∃ c r, row c r = s :=
  ⟨⟨s.val / 512, by omega⟩, ⟨s.val % 512, by omega⟩, Fin.ext (by show 512 * (s.val / 512) + s.val % 512 = s.val; omega)⟩

end Cert.Attn

namespace Cert.KernelIdeal.Ring

open Cert.KernelIdeal Cert.KernelIdeal.Gen Cert.Attn

open Idealize.ShloMosaic
open Idealize.ShloMosaic.TcCoe

variable {m : (ℓ : Loc nD τ sig) → Buf (Elt Ideal) ℓ} (ρ : Dev nD → PrngReg)
variable {x : Full.Idx → EReal} {q k v o : Mat.Idx → EReal}

theorem given (hx : ∀ c : Dev nD, m ((c : Thread nD τ).loc main_arg0) = Layout.block Part Full 1 4 c x)
    (hq : ∀ c : Dev nD, m ((c : Thread nD τ).loc main_arg1) = q) (hk : ∀ c : Dev nD, m ((c : Thread nD τ).loc main_arg2) = k)
    (hv : ∀ c : Dev nD, m ((c : Thread nD τ).loc main_arg3) = v) (ho : ∀ c : Dev nD, m ((c : Thread nD τ).loc main_arg4) = o)
    (fx : ∀ i, x i = ((x i).toReal : EReal)) (fq : ∀ i, q i = ((q i).toReal : EReal)) (fk : ∀ i, k i = ((k i).toReal : EReal)) :
    Given m (at3 fun i => (x i).toReal) (at2 fun i => (q i).toReal) (at2 fun i => (k i).toReal) (at2 v) (at2 o) where
  x c b r e := by
    rw [hx c, block_at, fx]
    exact congrArg (fun t : ℝ => (t : EReal)) (at3_fin (fun i => (x i).toReal) b (row c r) e).symm
  q c i j := by
    show m ((c : Thread nD τ).loc main_arg1) (ix2 i j) = _
    rw [hq c, at2_fin]
    exact fq _
  k c i j := by
    show m ((c : Thread nD τ).loc main_arg2) (ix2 i j) = _
    rw [hk c, at2_fin]
    exact fk _
  v c i j := by
    show m ((c : Thread nD τ).loc main_arg3) (ix2 i j) = _
    rw [hv c, at2_fin]
  o c i j := by
    show m ((c : Thread nD τ).loc main_arg4) (ix2 i j) = _
    rw [ho c, at2_fin]

/-- A device's result is its block of the reference's. -/
theorem outAt_block (hx : ∀ c : Dev nD, m ((c : Thread nD τ).loc main_arg0) = Layout.block Part Full 1 4 c x)
    (hq : ∀ c : Dev nD, m ((c : Thread nD τ).loc main_arg1) = q) (hk : ∀ c : Dev nD, m ((c : Thread nD τ).loc main_arg2) = k)
    (hv : ∀ c : Dev nD, m ((c : Thread nD τ).loc main_arg3) = v) (ho : ∀ c : Dev nD, m ((c : Thread nD τ).loc main_arg4) = o)
    (fx : ∀ i, x i = ((x i).toReal : EReal)) (fq : ∀ i, q i = ((q i).toReal : EReal)) (fk : ∀ i, k i = ((k i).toReal : EReal)) (c : Dev nD) :
    outAt m ρ c = Layout.block Part Full 1 4 c (Cert.ReferenceIdeal.Stages.result x q k v o) := by
  have H := given hx hq hk hv ho fx fq fk
  funext i
  obtain ⟨b, r, e, rfl⟩ : ∃ (b : Fin 2) (r : Fin 512) (e : Fin 1024), i = ix3 b r e := ⟨i 0, i 1, i 2, eq_ix3 i⟩
  rw [block_at, outAt_at ρ H c b r e]
  refine (Cert.ReferenceIdeal.Stages.result_at (fun b s e => ?_) (fun i j => ?_) (fun i j => ?_) (fun i j => (at2_fin v i j).symm)
    (fun i j => (at2_fin o i j).symm) b (row c r) e).symm
  · rw [at3_fin]; exact fx _
  · rw [at2_fin]; exact fq _
  · rw [at2_fin]; exact fk _

end Cert.KernelIdeal.Ring

end
-- ==== Proof.lean ====
module

public import proofs.«01_k».proof.Defs
public import proofs.«01_k».proof.Proof.Ideal.Final
public import proofs.«01_k».proof.Proof.Float.Final
public import proofs.«01_k».proof.Proof.Gen.ReferenceIdeal
public import proofs.«01_k».proof.Proof.Gen.ReferenceIdeal.Run
public import proofs.«01_k».proof.Proof.Math.Finite
public import proofs.«01_k».proof.Proof.Math.Equal
public import Idealize.ShloMosaic.Lib.Quiescent

@[expose] public section

noncomputable section

namespace Cert.Proof

open Idealize.ShloMosaic Idealize.SL.Sem

theorem frame_kernel : Cert.quiescent_Kernel (hKernel := Cert.Kernel.Gen.facts) := fun m g _ =>
  (θ_run Cert.Kernel.defs _ _).mono (fun _ h => ⟨fun c => (h.1 c).2, h.2⟩) (Cert.Kernel.Ring.ran (F := Bits) m g)

theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Ring.ran (F := Ideal) m g)

/-- The reference has no semaphores. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem frame_kernelIdeal_finite : Cert.quiescent_KernelIdeal_pre_finite_KernelIdeal (hKernelIdeal := Cert.KernelIdeal.Gen.facts)
    (hPre_finite_KernelIdeal := Cert.Pre_finite_KernelIdeal.fits) := fun m g _ => frame_kernelIdeal m g trivial

theorem frame_reference_finite : Cert.quiescent_ReferenceIdeal_pre_finite_ReferenceIdeal (hReferenceIdeal := Cert.ReferenceIdeal.Gen.facts)
    (hPre_finite_ReferenceIdeal := Cert.Pre_finite_ReferenceIdeal.fits) := fun m g _ => frame_reference m g trivial

/-- Both programs end at the same whole result. -/
theorem values : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.fits) := by
  intro m g m' g' hp ha
  have hr := fun c => @Cert.Pre_finite_KernelIdeal.real Cert.Pre_finite_KernelIdeal.fits _ _ _ _ _ (hp c)
  refine ⟨Cert.ReferenceIdeal.Value.res_main_v81 m' 0, ?_, ?_⟩
  · refine (θ_run Cert.KernelIdeal.defs _ _).mono (fun r h c => ⟨((h.1 c).1.trans ?_), (h.1 c).2⟩) (Cert.KernelIdeal.Ring.ran (F := Ideal) m g)
    rw [Cert.ReferenceIdeal.Stages.result_eq]
    refine Cert.KernelIdeal.Ring.outAt_block g (fun c => (ha c).1) (fun c => (ha c).2.1) (fun c => (ha c).2.2.1) (fun c => (ha c).2.2.2.1)
      (fun c => (ha c).2.2.2.2) (fun i => ?_) (fun i => ?_) (fun i => ?_) c
    · obtain ⟨b, s, e, rfl⟩ : ∃ (b : Fin 2) (s : Fin 2048) (e : Fin 1024), i = ix3 b s e := ⟨i 0, i 1, i 2, eq_ix3 i⟩
      obtain ⟨c, r, rfl⟩ := Cert.Attn.row_onto s
      have h := (hr c).1 (ix3 b r e)
      rw [(ha c).1] at h
      rwa [Cert.Attn.block_at] at h
    · have h := (hr 0).2.1 i
      rwa [(ha 0).2.1] at h
    · have h := (hr 0).2.2 i
      rwa [(ha 0).2.2.1] at h
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_KernelIdeal.fits,
    Cert.Pre_finite_ReferenceIdeal.fits, frame_kernel, frame_kernelIdeal, frame_kernelIdeal_finite, frame_reference, frame_reference_finite,
    trivial, values⟩

end Cert.Proof

end
